-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_values [hPre_finite_values : Cert.Pre_finite_values.Facts] (m : (ℓ : Loc Cert.AttnIdeal.nD Cert.AttnIdeal.τ Cert.AttnIdeal.sig) → Buf (Elt Ideal) ℓ) : Prop :=
  ∀ c : Dev Cert.AttnIdeal.nD,
    (Cert.Pre_finite_values.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_finite_values.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 = (fun _ => 1#1)
    ∧ (Cert.Pre_finite_values.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 = (fun _ => 1#1)
    ∧ (Cert.Pre_finite_values.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 = (fun _ => 1#1)
    ∧ (Cert.Pre_finite_values.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_values [hPre_finite_values : Cert.Pre_finite_values.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_values.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_finite_values.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.1 = (fun _ => 1#1)
    ∧ (Cert.Pre_finite_values.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.1 = (fun _ => 1#1)
    ∧ (Cert.Pre_finite_values.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.1 = (fun _ => 1#1)
    ∧ (Cert.Pre_finite_values.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_values [hAttnIdeal : Cert.AttnIdeal.Facts] [hPre_finite_values : Cert.Pre_finite_values.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_values m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_values [hAttnRefIdeal : Cert.AttnRefIdeal.Facts] [hPre_finite_values : Cert.Pre_finite_values.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_values m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def preserves_Attn_AttnIdeal : Prop :=
  True

def preserves_Ffn_FfnIdeal : Prop :=
  True

def preserves_OutProj_OutProjIdeal : Prop :=
  True

def preserves_InProj_InProjIdeal : Prop :=
  True

def algebraic_AttnIdeal_AttnRefIdeal_pre_finite_values [hAttnIdeal : Cert.AttnIdeal.Facts] [hAttnRefIdeal : Cert.AttnRefIdeal.Facts] [hPre_finite_values : Cert.Pre_finite_values.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_values m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v51) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v32) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v14_0)) (v1 : (c : Dev Cert.InProjIdeal.nD) → Buf (Elt Ideal) ((c.tc : Thread Cert.InProjIdeal.nD Cert.InProjIdeal.τ).loc Cert.InProjIdeal.main_v14_1)) (v2 : (c : Dev Cert.InProjIdeal.nD) → Buf (Elt Ideal) ((c.tc : Thread Cert.InProjIdeal.nD Cert.InProjIdeal.τ).loc Cert.InProjIdeal.main_v14_2)) (v3 : (c : Dev Cert.InProjIdeal.nD) → Buf (Elt Ideal) ((c.tc : Thread Cert.InProjIdeal.nD Cert.InProjIdeal.τ).loc Cert.InProjIdeal.main_v14_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14_0) = v0 c
          ∧ r.2.mem ((c.tc : Thread Cert.InProjIdeal.nD Cert.InProjIdeal.τ).loc Cert.InProjIdeal.main_v14_1) = v1 c
          ∧ r.2.mem ((c.tc : Thread Cert.InProjIdeal.nD Cert.InProjIdeal.τ).loc Cert.InProjIdeal.main_v14_2) = v2 c
          ∧ r.2.mem ((c.tc : Thread Cert.InProjIdeal.nD Cert.InProjIdeal.τ).loc Cert.InProjIdeal.main_v14_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_v56) = v1 c
          ∧ r.2.mem ((c.tc : Thread Cert.InProjRefIdeal.nD Cert.InProjRefIdeal.τ).loc Cert.InProjRefIdeal.main_v59) = v2 c
          ∧ r.2.mem ((c.tc : Thread Cert.InProjRefIdeal.nD Cert.InProjRefIdeal.τ).loc Cert.InProjRefIdeal.main_v62) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hPre_finite_values : Cert.Pre_finite_values.Facts),
    quiescent_Attn (hAttn := hAttn)
    ∧ quiescent_AttnIdeal (hAttnIdeal := hAttnIdeal)
    ∧ quiescent_AttnIdeal_pre_finite_values (hAttnIdeal := hAttnIdeal) (hPre_finite_values := hPre_finite_values)
    ∧ quiescent_AttnRefIdeal (hAttnRefIdeal := hAttnRefIdeal)
    ∧ quiescent_AttnRefIdeal_pre_finite_values (hAttnRefIdeal := hAttnRefIdeal) (hPre_finite_values := hPre_finite_values)
    ∧ quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ preserves_Attn_AttnIdeal
    ∧ preserves_Ffn_FfnIdeal
    ∧ preserves_OutProj_OutProjIdeal
    ∧ preserves_InProj_InProjIdeal
    ∧ algebraic_AttnIdeal_AttnRefIdeal_pre_finite_values (hAttnIdeal := hAttnIdeal) (hAttnRefIdeal := hAttnRefIdeal) (hPre_finite_values := hPre_finite_values)
    ∧ algebraic_FfnIdeal_FfnRefIdeal (hFfnIdeal := hFfnIdeal) (hFfnRefIdeal := hFfnRefIdeal)
    ∧ algebraic_OutProjIdeal_OutProjRefIdeal (hOutProjIdeal := hOutProjIdeal) (hOutProjRefIdeal := hOutProjRefIdeal)
    ∧ algebraic_InProjIdeal_InProjRefIdeal (hInProjIdeal := hInProjIdeal) (hInProjRefIdeal := hInProjRefIdeal)
-- ==== Pre_finite_values.lean ====
abbrev S6x8x8192x128 : Shape := ⟨4, ![6, 8, 8192, 128]⟩
abbrev S1x64 : Shape := ⟨2, ![1, 64]⟩
abbrev S1x128 : Shape := ⟨2, ![1, 128]⟩
abbrev S_ : Shape := ⟨0, ![]⟩

class Facts : Prop where
  bcast_S_S6x8x8192x128 : S_.BroadcastsInDim S6x8x8192x128 (![] : Fin 0 → Fin S6x8x8192x128.rank)
  bcast_S_S1x64 : S_.BroadcastsInDim S1x64 (![] : Fin 0 → Fin S1x64.rank)

variable [Facts]

def fn {F : FTy → Type} [FloatOps F] (main_arg0 : FVec F S6x8x8192x128 .bf16) (main_arg1 : FVec F S6x8x8192x128 .bf16) (main_arg2 : FVec F S6x8x8192x128 .bf16) (main_arg3 : FVec F S1x64 .f32) (main_arg4 : FVec F S1x64 .f32) (main_arg5 : FVec F S1x64 .f32) (main_arg6 : FVec F S1x64 .f32) (main_arg7 : FVec F S1x128 .f32) : IVec S6x8x8192x128 1 × IVec S1x64 1 × IVec S1x64 1 × IVec S1x64 1 × IVec S1x64 1 :=
  let main_v0 : FVec F S6x8x8192x128 .bf16 := Host.absf main_arg2
  let main_cst : FVec F S_ .bf16 := constant S_ .bf16 0x7F80#16
  let main_v1 : FVec F S6x8x8192x128 .bf16 := broadcastInDim S6x8x8192x128 ![] bcast_S_S6x8x8192x128 main_cst
  let main_v2 : IVec S6x8x8192x128 1 := cmpf .olt main_v0 main_v1
  let main_v3 : FVec F S1x64 .f32 := Host.absf main_arg3
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg4
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg5
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg6
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  (main_v2, main_v5, main_v8, main_v11, main_v14)
-- ==== Attn.lean ====
abbrev S6x8x8192x128 : Shape := ⟨4, ![6, 8, 8192, 128]⟩
abbrev S1x64 : Shape := ⟨2, ![1, 64]⟩
abbrev S1x128 : Shape := ⟨2, ![1, 128]⟩
abbrev S6x8192x1024 : Shape := ⟨3, ![6, 8192, 1024]⟩
abbrev S1x1x512x128 : Shape := ⟨4, ![1, 1, 512, 128]⟩
abbrev S1x512x128 : Shape := ⟨3, ![1, 512, 128]⟩
abbrev S2x512x128 : Shape := ⟨3, ![2, 512, 128]⟩
abbrev S2x512x1 : Shape := ⟨3, ![2, 512, 1]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1 : Shape := ⟨1, ![1]⟩
abbrev S1x1 : Shape := ⟨2, ![1, 1]⟩

abbrev nBuf : Space → Nat
  | .hbm => 9
  | .vmem => 17
  | .smem => 0
  | _ => 0

abbrev bufTy : (tb : Table) → Fin (tcTables nBuf tb) → BufTy
  | .hbm, ⟨0, _⟩ => ⟨S6x8x8192x128, .bf16⟩
  | .hbm, ⟨1, _⟩ => ⟨S6x8x8192x128, .bf16⟩
  | .hbm, ⟨2, _⟩ => ⟨S6x8x8192x128, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S6x8192x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x1x512x128, .bf16⟩
  | .local _ .vmem, ⟨6, _⟩ => ⟨S1x1x512x128, .bf16⟩
  | .local _ .vmem, ⟨7, _⟩ => ⟨S1x1x512x128, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S1x1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S2x512x128, .bf16⟩
  | .local _ .vmem, ⟨14, _⟩ => ⟨S2x512x1, .f32⟩
  | .local _ .vmem, ⟨15, _⟩ => ⟨S2x512x1, .f32⟩
  | .local _ .vmem, ⟨16, _⟩ => ⟨S2x512x128, .f32⟩
  | _, _ => ⟨S6x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨4, ![6, 8, 16, 16], ![false, false, false, false]⟩

def k0_cond2 (i : grid0.Coords) : BitVec 1 :=
  let arg3 : BitVec 32 := BitVec.ofNat 32 (i 3).val
  let c15_i32 : BitVec 32 := 15#32
  let v77 : BitVec 1 := Scalar.cmpi .eq arg3 c15_i32
  let v78 : BitVec 32 := Scalar.extui v77
  let c0_i32_56 : BitVec 32 := 0#32
  let v79 : BitVec 1 := Scalar.cmpi .ne v78 c0_i32_56
  v79

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S1x1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, true]

abbrev stage0_7 : Fin 2 → Memref sig .tc .vmem S1x1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]
-- ==== AttnRefIdeal.lean ====
abbrev S6x8x8192x128 : Shape := ⟨4, ![6, 8, 8192, 128]⟩
abbrev S1x64 : Shape := ⟨2, ![1, 64]⟩
abbrev S1x128 : Shape := ⟨2, ![1, 128]⟩
abbrev S6x8x8192x2x64 : Shape := ⟨5, ![6, 8, 8192, 2, 64]⟩
abbrev S6x8x2x8192x8192 : Shape := ⟨5, ![6, 8, 2, 8192, 8192]⟩
abbrev S_ : Shape := ⟨0, ![]⟩
abbrev S6x8x2x8192 : Shape := ⟨4, ![6, 8, 2, 8192]⟩
abbrev S6x8x2x8192x1 : Shape := ⟨5, ![6, 8, 2, 8192, 1]⟩
abbrev S6x8x1x8192x8192 : Shape := ⟨5, ![6, 8, 1, 8192, 8192]⟩
abbrev S6x8x8192x8192 : Shape := ⟨4, ![6, 8, 8192, 8192]⟩
abbrev S6x8x128x8192 : Shape := ⟨4, ![6, 8, 128, 8192]⟩
abbrev S6x8192x8x128 : Shape := ⟨4, ![6, 8192, 8, 128]⟩
abbrev S6x8192x8 : Shape := ⟨3, ![6, 8192, 8]⟩
abbrev S6x8192x8x1 : Shape := ⟨4, ![6, 8192, 8, 1]⟩
abbrev S128 : Shape := ⟨1, ![128]⟩
abbrev S1x1x1x128 : Shape := ⟨4, ![1, 1, 1, 128]⟩
abbrev S6x8192x1024 : Shape := ⟨3, ![6, 8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S6x8x8192x128, .bf16⟩
  | .hbm, ⟨1, _⟩ => ⟨S6x8x8192x128, .bf16⟩
  | .hbm, ⟨2, _⟩ => ⟨S6x8x8192x128, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S6x8x8192x128, .f32⟩
  | .hbm, ⟨9, _⟩ => ⟨S6x8x8192x2x64, .f32⟩
  | .hbm, ⟨10, _⟩ => ⟨S6x8x8192x128, .f32⟩
  | .hbm, ⟨11, _⟩ => ⟨S6x8x8192x2x64, .f32⟩
  | .hbm, ⟨12, _⟩ => ⟨S6x8x8192x128, .f32⟩
  | .hbm, ⟨13, _⟩ => ⟨S6x8x2x8192x8192, .f32⟩
  | .hbm, ⟨14, _⟩ => ⟨S_, .f32⟩
  | .hbm, ⟨15, _⟩ => ⟨S6x8x2x8192, .f32⟩
  | .hbm, ⟨16, _⟩ => ⟨S_, .f32⟩
  | .hbm, ⟨17, _⟩ => ⟨S6x8x2x8192, .f32⟩
  | .hbm, ⟨18, _⟩ => ⟨S6x8x2x8192, .f32⟩
  | .hbm, ⟨19, _⟩ => ⟨S6x8x2x8192x1, .f32⟩
  | .hbm, ⟨20, _⟩ => ⟨S6x8x2x8192x8192, .f32⟩
  | .hbm, ⟨21, _⟩ => ⟨S6x8x2x8192x8192, .f32⟩
  | .hbm, ⟨22, _⟩ => ⟨S6x8x2x8192x8192, .f32⟩
  | .hbm, ⟨23, _⟩ => ⟨S_, .f32⟩
  | .hbm, ⟨24, _⟩ => ⟨S6x8x2x8192, .f32⟩
  | .hbm, ⟨25, _⟩ => ⟨S6x8x2x8192x1, .f32⟩
  | .hbm, ⟨26, _⟩ => ⟨S6x8x2x8192x8192, .f32⟩
  | .hbm, ⟨27, _⟩ => ⟨S6x8x2x8192x8192, .f32⟩
  | .hbm, ⟨28, _⟩ => ⟨S1x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S6x8x1x8192x8192, .f32⟩
  | .hbm, ⟨40, _⟩ => ⟨S6x8x8192x8192, .f32⟩
  | .hbm, ⟨41, _⟩ => ⟨S6x8x1x8192x8192, .f32⟩
  | .hbm, ⟨42, _⟩ => ⟨S6x8x8192x8192, .f32⟩
  | .hbm, ⟨43, _⟩ => ⟨S6x8x8192x8192, .f32⟩
  | .hbm, ⟨44, _⟩ => ⟨S6x8x8192x8192, .f32⟩
  | .hbm, ⟨45, _⟩ => ⟨S6x8x8192x8192, .f32⟩
  | .hbm, ⟨46, _⟩ => ⟨S6x8x128x8192, .f32⟩
  | .hbm, ⟨47, _⟩ => ⟨S6x8192x8x128, .f32⟩
  | .hbm, ⟨48, _⟩ => ⟨S6x8192x8x128, .f32⟩
  | .hbm, ⟨49, _⟩ => ⟨S_, .f32⟩
  | .hbm, ⟨50, _⟩ => ⟨S6x8192x8, .f32⟩
  | .hbm, ⟨51, _⟩ => ⟨S6x8192x8x1, .f32⟩
  | .hbm, ⟨52, _⟩ => ⟨S_, .f32⟩
  | .hbm, ⟨53, _⟩ => ⟨S6x8192x8x1, .f32⟩
  | .hbm, ⟨54, _⟩ => ⟨S6x8192x8x1, .f32⟩
  | .hbm, ⟨55, _⟩ => ⟨S_, .f32⟩
  | .hbm, ⟨56, _⟩ => ⟨S6x8192x8x1, .f32⟩
  | .hbm, ⟨57, _⟩ => ⟨S6x8192x8x1, .f32⟩
  | .hbm, ⟨58, _⟩ => ⟨S6x8192x8x1, .f32⟩
  | .hbm, ⟨59, _⟩ => ⟨S6x8192x8x128, .f32⟩
  | .hbm, ⟨60, _⟩ => ⟨S6x8192x8x128, .f32⟩
  | .hbm, ⟨61, _⟩ => ⟨S128, .f32⟩
  | .hbm, ⟨62, _⟩ => ⟨S1x1x1x128, .f32⟩
  | .hbm, ⟨63, _⟩ => ⟨S6x8192x8x128, .f32⟩
  | .hbm, ⟨64, _⟩ => ⟨S6x8192x8x128, .f32⟩
  | .hbm, ⟨65, _⟩ => ⟨S_, .f32⟩
  | .hbm, ⟨66, _⟩ => ⟨S6x8192x8x128, .f32⟩
  | .hbm, ⟨67, _⟩ => ⟨S6x8192x8x128, .f32⟩
  | .hbm, ⟨68, _⟩ => ⟨S6x8192x1024, .f32⟩
  | .hbm, ⟨69, _⟩ => ⟨S6x8192x1024, .bf16⟩
  | _, _ => ⟨S6x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Ffn.lean ====
abbrev S49152x2048 : Shape := ⟨2, ![49152, 2048]⟩
abbrev S1x2048 : Shape := ⟨2, ![1, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S49152x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S49152x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![96, 11], ![false, false]⟩

def k0_cond2 (i : grid0.Coords) : BitVec 1 :=
  let arg1 : BitVec 32 := BitVec.ofNat 32 (i 1).val
  let c10_i32 : BitVec 32 := 10#32
  let v19 : BitVec 1 := Scalar.cmpi .eq arg1 c10_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S49152x2048 : Shape := ⟨2, ![49152, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S49152 : Shape := ⟨1, ![49152]⟩
abbrev S49152x1 : Shape := ⟨2, ![49152, 1]⟩
abbrev S49152x5632 : Shape := ⟨2, ![49152, 5632]⟩

abbrev nBuf : Space → Nat
  | .hbm => 57
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S2048, .f32⟩
  | .hbm, ⟨7, _⟩ => ⟨S49152x2048, .f32⟩
  | .hbm, ⟨8, _⟩ => ⟨S_, .f32⟩
  | .hbm, ⟨9, _⟩ => ⟨S49152, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S_, .f32⟩
  | .hbm, ⟨15, _⟩ => ⟨S49152x1, .f32⟩
  | .hbm, ⟨16, _⟩ => ⟨S49152x1, .f32⟩
  | .hbm, ⟨17, _⟩ => ⟨S49152x1, .f32⟩
  | .hbm, ⟨18, _⟩ => ⟨S49152x2048, .f32⟩
  | .hbm, ⟨19, _⟩ => ⟨S49152x2048, .f32⟩
  | .hbm, ⟨20, _⟩ => ⟨S1x2048, .f32⟩
  | .hbm, ⟨21, _⟩ => ⟨S49152x2048, .f32⟩
  | .hbm, ⟨22, _⟩ => ⟨S49152x2048, .f32⟩
  | .hbm, ⟨23, _⟩ => ⟨S2048x5632, .f32⟩
  | .hbm, ⟨24, _⟩ => ⟨S49152x5632, .f32⟩
  | .hbm, ⟨25, _⟩ => ⟨S2048x5632, .f32⟩
  | .hbm, ⟨26, _⟩ => ⟨S49152x5632, .f32⟩
  | .hbm, ⟨27, _⟩ => ⟨S49152x5632, .f32⟩
  | .hbm, ⟨28, _⟩ => ⟨S49152x5632, .f32⟩
  | .hbm, ⟨29, _⟩ => ⟨S_, .f32⟩
  | .hbm, ⟨30, _⟩ => ⟨S49152x5632, .f32⟩
  | .hbm, ⟨31, _⟩ => ⟨S49152x5632, .f32⟩
  | .hbm, ⟨32, _⟩ => ⟨S_, .f32⟩
  | .hbm, ⟨33, _⟩ => ⟨S49152x5632, .f32⟩
  | .hbm, ⟨34, _⟩ => ⟨S49152x5632, .f32⟩
  | .hbm, ⟨35, _⟩ => ⟨S49152x5632, .f32⟩
  | .hbm, ⟨36, _⟩ => ⟨S49152x5632, .f32⟩
  | .hbm, ⟨37, _⟩ => ⟨S5632x2048, .f32⟩
  | .hbm, ⟨38, _⟩ => ⟨S49152x2048, .f32⟩
  | .hbm, ⟨39, _⟩ => ⟨S2048, .f32⟩
  | .hbm, ⟨40, _⟩ => ⟨S49152x2048, .f32⟩
  | .hbm, ⟨41, _⟩ => ⟨S_, .f32⟩
  | .hbm, ⟨42, _⟩ => ⟨S49152, .f32⟩
  | .hbm, ⟨43, _⟩ => ⟨S49152x1, .f32⟩
  | .hbm, ⟨44, _⟩ => ⟨S_, .f32⟩
  | .hbm, ⟨45, _⟩ => ⟨S49152x1, .f32⟩
  | .hbm, ⟨46, _⟩ => ⟨S49152x1, .f32⟩
  | .hbm, ⟨47, _⟩ => ⟨S_, .f32⟩
  | .hbm, ⟨48, _⟩ => ⟨S49152x1, .f32⟩
  | .hbm, ⟨49, _⟩ => ⟨S49152x1, .f32⟩
  | .hbm, ⟨50, _⟩ => ⟨S49152x1, .f32⟩
  | .hbm, ⟨51, _⟩ => ⟨S49152x2048, .f32⟩
  | .hbm, ⟨52, _⟩ => ⟨S49152x2048, .f32⟩
  | .hbm, ⟨53, _⟩ => ⟨S1x2048, .f32⟩
  | .hbm, ⟨54, _⟩ => ⟨S49152x2048, .f32⟩
  | .hbm, ⟨55, _⟩ => ⟨S49152x2048, .f32⟩
  | .hbm, ⟨56, _⟩ => ⟨S49152x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== OutProj.lean ====
abbrev S49152x1024 : Shape := ⟨2, ![49152, 1024]⟩
abbrev S1x1024 : Shape := ⟨2, ![1, 1024]⟩
abbrev S2048x2048 : Shape := ⟨2, ![2048, 2048]⟩
abbrev S1x2048 : Shape := ⟨2, ![1, 2048]⟩
abbrev S49152x2048 : Shape := ⟨2, ![49152, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S49152x1024, .f32⟩
  | .hbm, ⟨1, _⟩ => ⟨S49152x1024, .bf16⟩
  | .hbm, ⟨2, _⟩ => ⟨S1x1024, .f32⟩
  | .hbm, ⟨3, _⟩ => ⟨S2048x2048, .bf16⟩
  | .hbm, ⟨4, _⟩ => ⟨S1x2048, .f32⟩
  | .hbm, ⟨5, _⟩ => ⟨S49152x2048, .f32⟩
  | .hbm, ⟨6, _⟩ => ⟨S49152x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S49152x1024 : Shape := ⟨2, ![49152, 1024]⟩
abbrev S1x1024 : Shape := ⟨2, ![1, 1024]⟩
abbrev S2048x2048 : Shape := ⟨2, ![2048, 2048]⟩
abbrev S1x2048 : Shape := ⟨2, ![1, 2048]⟩
abbrev S49152x2048 : Shape := ⟨2, ![49152, 2048]⟩
abbrev S1024 : Shape := ⟨1, ![1024]⟩
abbrev S_ : Shape := ⟨0, ![]⟩
abbrev S49152 : Shape := ⟨1, ![49152]⟩
abbrev S49152x1 : Shape := ⟨2, ![49152, 1]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x1024, .bf16⟩
  | .hbm, ⟨2, _⟩ => ⟨S1x1024, .f32⟩
  | .hbm, ⟨3, _⟩ => ⟨S2048x2048, .bf16⟩
  | .hbm, ⟨4, _⟩ => ⟨S1x2048, .f32⟩
  | .hbm, ⟨5, _⟩ => ⟨S49152x2048, .f32⟩
  | .hbm, ⟨6, _⟩ => ⟨S1024, .f32⟩
  | .hbm, ⟨7, _⟩ => ⟨S49152x1024, .f32⟩
  | .hbm, ⟨8, _⟩ => ⟨S_, .f32⟩
  | .hbm, ⟨9, _⟩ => ⟨S49152, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S_, .f32⟩
  | .hbm, ⟨15, _⟩ => ⟨S49152x1, .f32⟩
  | .hbm, ⟨16, _⟩ => ⟨S49152x1, .f32⟩
  | .hbm, ⟨17, _⟩ => ⟨S49152x1, .f32⟩
  | .hbm, ⟨18, _⟩ => ⟨S49152x1024, .f32⟩
  | .hbm, ⟨19, _⟩ => ⟨S49152x1024, .f32⟩
  | .hbm, ⟨20, _⟩ => ⟨S1x1024, .f32⟩
  | .hbm, ⟨21, _⟩ => ⟨S49152x1024, .f32⟩
  | .hbm, ⟨22, _⟩ => ⟨S49152x1024, .f32⟩
  | .hbm, ⟨23, _⟩ => ⟨S49152x1024, .f32⟩
  | .hbm, ⟨24, _⟩ => ⟨S49152x2048, .f32⟩
  | .hbm, ⟨25, _⟩ => ⟨S2048x2048, .f32⟩
  | .hbm, ⟨26, _⟩ => ⟨S49152x2048, .f32⟩
  | .hbm, ⟨27, _⟩ => ⟨S2048, .f32⟩
  | .hbm, ⟨28, _⟩ => ⟨S49152x2048, .f32⟩
  | .hbm, ⟨29, _⟩ => ⟨S_, .f32⟩
  | .hbm, ⟨30, _⟩ => ⟨S49152, .f32⟩
  | .hbm, ⟨31, _⟩ => ⟨S49152x1, .f32⟩
  | .hbm, ⟨32, _⟩ => ⟨S_, .f32⟩
  | .hbm, ⟨33, _⟩ => ⟨S49152x1, .f32⟩
  | .hbm, ⟨34, _⟩ => ⟨S49152x1, .f32⟩
  | .hbm, ⟨35, _⟩ => ⟨S_, .f32⟩
  | .hbm, ⟨36, _⟩ => ⟨S49152x1, .f32⟩
  | .hbm, ⟨37, _⟩ => ⟨S49152x1, .f32⟩
  | .hbm, ⟨38, _⟩ => ⟨S49152x1, .f32⟩
  | .hbm, ⟨39, _⟩ => ⟨S49152x2048, .f32⟩
  | .hbm, ⟨40, _⟩ => ⟨S49152x2048, .f32⟩
  | .hbm, ⟨41, _⟩ => ⟨S1x2048, .f32⟩
  | .hbm, ⟨42, _⟩ => ⟨S49152x2048, .f32⟩
  | .hbm, ⟨43, _⟩ => ⟨S49152x2048, .f32⟩
  | .hbm, ⟨44, _⟩ => ⟨S49152x2048, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== InProj.lean ====
abbrev S49152x2048 : Shape := ⟨2, ![49152, 2048]⟩
abbrev S1x2048 : Shape := ⟨2, ![1, 2048]⟩
abbrev S2048x6144 : Shape := ⟨2, ![2048, 6144]⟩
abbrev S8192x32 : Shape := ⟨2, ![8192, 32]⟩
abbrev S_ : Shape := ⟨0, ![]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S49152x3072 : Shape := ⟨2, ![49152, 3072]⟩
abbrev S6x8x8192x128 : Shape := ⟨4, ![6, 8, 8192, 128]⟩
abbrev S512x2048 : Shape := ⟨2, ![512, 2048]⟩
abbrev S2048x1024 : Shape := ⟨2, ![2048, 1024]⟩
abbrev S512x128 : Shape := ⟨2, ![512, 128]⟩
abbrev S512x1024 : Shape := ⟨2, ![512, 1024]⟩
abbrev S1x8x512x128 : Shape := ⟨4, ![1, 8, 512, 128]⟩
abbrev S512 : Shape := ⟨1, ![512]⟩
abbrev S512x1 : Shape := ⟨2, ![512, 1]⟩
abbrev S1x1x512x128 : Shape := ⟨4, ![1, 1, 512, 128]⟩

abbrev nBuf : Space → Nat
  | .hbm => 24
  | .vmem => 20
  | .smem => 0
  | _ => 0

abbrev bufTy : (tb : Table) → Fin (tcTables nBuf tb) → BufTy
  | .hbm, ⟨0, _⟩ => ⟨S49152x2048, .f32⟩
  | .hbm, ⟨1, _⟩ => ⟨S1x2048, .f32⟩
  | .hbm, ⟨2, _⟩ => ⟨S2048x6144, .bf16⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192x32, .f32⟩
  | .hbm, ⟨7, _⟩ => ⟨S8192x64, .f32⟩
  | .hbm, ⟨8, _⟩ => ⟨S1x8192x1x64, .f32⟩
  | .hbm, ⟨9, _⟩ => ⟨S1x8192x2x64, .f32⟩
  | .hbm, ⟨10, _⟩ => ⟨S8192x128, .f32⟩
  | .hbm, ⟨11, _⟩ => ⟨S8192x32, .f32⟩
  | .hbm, ⟨12, _⟩ => ⟨S8192x64, .f32⟩
  | .hbm, ⟨13, _⟩ => ⟨S1x8192x1x64, .f32⟩
  | .hbm, ⟨14, _⟩ => ⟨S1x8192x2x64, .f32⟩
  | .hbm, ⟨15, _⟩ => ⟨S8192x128, .f32⟩
  | .hbm, ⟨16, _⟩ => ⟨S8192x64, .f32⟩
  | .hbm, ⟨17, _⟩ => ⟨S1x8192x1x64, .f32⟩
  | .hbm, ⟨18, _⟩ => ⟨S1x8192x2x64, .f32⟩
  | .hbm, ⟨19, _⟩ => ⟨S8192x128, .f32⟩
  | .hbm, ⟨20, _⟩ => ⟨S49152x3072, .f32⟩
  | .hbm, ⟨21, _⟩ => ⟨S6x8x8192x128, .bf16⟩
  | .hbm, ⟨22, _⟩ => ⟨S6x8x8192x128, .bf16⟩
  | .hbm, ⟨23, _⟩ => ⟨S6x8x8192x128, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .f32⟩
  | .local _ .vmem, ⟨12, _⟩ => ⟨S512x1024, .f32⟩
  | .local _ .vmem, ⟨13, _⟩ => ⟨S1x8x512x128, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S512x2048, .bf16⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![96, 6], ![false, false]⟩

def k0_cond2 (i : grid0.Coords) : BitVec 1 :=
  let arg1 : BitVec 32 := BitVec.ofNat 32 (i 1).val
  let c3_i32 : BitVec 32 := 3#32
  let v6 : BitVec 1 := Scalar.cmpi .slt arg1 c3_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c3_i32_5 : BitVec 32 := 3#32
  let v9 : BitVec 1 := Scalar.cmpi .eq arg1 c3_i32_5
  let v10 : BitVec 32 := Scalar.extui v9
  let c0_i32_6 : BitVec 32 := 0#32
  let v11 : BitVec 1 := Scalar.cmpi .ne v10 c0_i32_6
  v11

def k0_cond4 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_7 : BitVec 32 := 0#32
  let v14 : BitVec 1 := Scalar.cmpi .ne v13 c0_i32_7
  v14

def k0_cond5 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_7 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InProjRefIdeal.lean ====
abbrev S49152x2048 : Shape := ⟨2, ![49152, 2048]⟩
abbrev S1x2048 : Shape := ⟨2, ![1, 2048]⟩
abbrev S2048x6144 : Shape := ⟨2, ![2048, 6144]⟩
abbrev S8192x32 : Shape := ⟨2, ![8192, 32]⟩
abbrev S2048 : Shape := ⟨1, ![2048]⟩
abbrev S_ : Shape := ⟨0, ![]⟩
abbrev S49152 : Shape := ⟨1, ![49152]⟩
abbrev S49152x1 : Shape := ⟨2, ![49152, 1]⟩
abbrev S49152x6144 : Shape := ⟨2, ![49152, 6144]⟩
abbrev S49152x3072 : Shape := ⟨2, ![49152, 3072]⟩
abbrev S49152x1024 : Shape := ⟨2, ![49152, 1024]⟩
abbrev S6x8192x16x64 : Shape := ⟨4, ![6, 8192, 16, 64]⟩
abbrev S6x8192x16x32 : Shape := ⟨4, ![6, 8192, 16, 32]⟩
abbrev S1x8192x1x32 : Shape := ⟨4, ![1, 8192, 1, 32]⟩
abbrev S6x8192x8x128 : Shape := ⟨4, ![6, 8192, 8, 128]⟩
abbrev S6x8x8192x128 : Shape := ⟨4, ![6, 8, 8192, 128]⟩

abbrev nBuf : Space → Nat
  | .hbm => 72
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S1x2048, .f32⟩
  | .hbm, ⟨2, _⟩ => ⟨S2048x6144, .bf16⟩
  | .hbm, ⟨3, _⟩ => ⟨S8192x32, .f32⟩
  | .hbm, ⟨4, _⟩ => ⟨S8192x32, .f32⟩
  | .hbm, ⟨5, _⟩ => ⟨S2048, .f32⟩
  | .hbm, ⟨6, _⟩ => ⟨S49152x2048, .f32⟩
  | .hbm, ⟨7, _⟩ => ⟨S_, .f32⟩
  | .hbm, ⟨8, _⟩ => ⟨S49152, .f32⟩
  | .hbm, ⟨9, _⟩ => ⟨S49152x1, .f32⟩
  | .hbm, ⟨10, _⟩ => ⟨S_, .f32⟩
  | .hbm, ⟨11, _⟩ => ⟨S49152x1, .f32⟩
  | .hbm, ⟨12, _⟩ => ⟨S49152x1, .f32⟩
  | .hbm, ⟨13, _⟩ => ⟨S_, .f32⟩
  | .hbm, ⟨14, _⟩ => ⟨S49152x1, .f32⟩
  | .hbm, ⟨15, _⟩ => ⟨S49152x1, .f32⟩
  | .hbm, ⟨16, _⟩ => ⟨S49152x1, .f32⟩
  | .hbm, ⟨17, _⟩ => ⟨S49152x2048, .f32⟩
  | .hbm, ⟨18, _⟩ => ⟨S49152x2048, .f32⟩
  | .hbm, ⟨19, _⟩ => ⟨S1x2048, .f32⟩
  | .hbm, ⟨20, _⟩ => ⟨S49152x2048, .f32⟩
  | .hbm, ⟨21, _⟩ => ⟨S49152x2048, .f32⟩
  | .hbm, ⟨22, _⟩ => ⟨S2048x6144, .f32⟩
  | .hbm, ⟨23, _⟩ => ⟨S49152x6144, .f32⟩
  | .hbm, ⟨24, _⟩ => ⟨S49152x3072, .f32⟩
  | .hbm, ⟨25, _⟩ => ⟨S49152x1024, .f32⟩
  | .hbm, ⟨26, _⟩ => ⟨S49152x1024, .f32⟩
  | .hbm, ⟨27, _⟩ => ⟨S49152x1024, .f32⟩
  | .hbm, ⟨28, _⟩ => ⟨S6x8192x16x64, .f32⟩
  | .hbm, ⟨29, _⟩ => ⟨S6x8192x16x32, .f32⟩
  | .hbm, ⟨30, _⟩ => ⟨S6x8192x16x32, .f32⟩
  | .hbm, ⟨31, _⟩ => ⟨S1x8192x1x32, .f32⟩
  | .hbm, ⟨32, _⟩ => ⟨S1x8192x1x32, .f32⟩
  | .hbm, ⟨33, _⟩ => ⟨S6x8192x16x32, .f32⟩
  | .hbm, ⟨34, _⟩ => ⟨S6x8192x16x32, .f32⟩
  | .hbm, ⟨35, _⟩ => ⟨S6x8192x16x32, .f32⟩
  | .hbm, ⟨36, _⟩ => ⟨S6x8192x16x32, .f32⟩
  | .hbm, ⟨37, _⟩ => ⟨S6x8192x16x32, .f32⟩
  | .hbm, ⟨38, _⟩ => ⟨S6x8192x16x32, .f32⟩
  | .hbm, ⟨39, _⟩ => ⟨S6x8192x16x32, .f32⟩
  | .hbm, ⟨40, _⟩ => ⟨S6x8192x16x32, .f32⟩
  | .hbm, ⟨41, _⟩ => ⟨S6x8192x16x32, .f32⟩
  | .hbm, ⟨42, _⟩ => ⟨S6x8192x16x32, .f32⟩
  | .hbm, ⟨43, _⟩ => ⟨S6x8192x16x64, .f32⟩
  | .hbm, ⟨44, _⟩ => ⟨S_, .f32⟩
  | .hbm, ⟨45, _⟩ => ⟨S6x8192x16x64, .f32⟩
  | .hbm, ⟨46, _⟩ => ⟨S6x8192x16x64, .f32⟩
  | .hbm, ⟨47, _⟩ => ⟨S6x8192x16x64, .f32⟩
  | .hbm, ⟨48, _⟩ => ⟨S6x8192x16x32, .f32⟩
  | .hbm, ⟨49, _⟩ => ⟨S6x8192x16x32, .f32⟩
  | .hbm, ⟨50, _⟩ => ⟨S1x8192x1x32, .f32⟩
  | .hbm, ⟨51, _⟩ => ⟨S1x8192x1x32, .f32⟩
  | .hbm, ⟨52, _⟩ => ⟨S6x8192x16x32, .f32⟩
  | .hbm, ⟨53, _⟩ => ⟨S6x8192x16x32, .f32⟩
  | .hbm, ⟨54, _⟩ => ⟨S6x8192x16x32, .f32⟩
  | .hbm, ⟨55, _⟩ => ⟨S6x8192x16x32, .f32⟩
  | .hbm, ⟨56, _⟩ => ⟨S6x8192x16x32, .f32⟩
  | .hbm, ⟨57, _⟩ => ⟨S6x8192x16x32, .f32⟩
  | .hbm, ⟨58, _⟩ => ⟨S6x8192x16x32, .f32⟩
  | .hbm, ⟨59, _⟩ => ⟨S6x8192x16x32, .f32⟩
  | .hbm, ⟨60, _⟩ => ⟨S6x8192x16x32, .f32⟩
  | .hbm, ⟨61, _⟩ => ⟨S6x8192x16x32, .f32⟩
  | .hbm, ⟨62, _⟩ => ⟨S6x8192x16x64, .f32⟩
  | .hbm, ⟨63, _⟩ => ⟨S6x8192x8x128, .f32⟩
  | .hbm, ⟨64, _⟩ => ⟨S6x8x8192x128, .f32⟩
  | .hbm, ⟨65, _⟩ => ⟨S6x8x8192x128, .bf16⟩
  | .hbm, ⟨66, _⟩ => ⟨S6x8192x8x128, .f32⟩
  | .hbm, ⟨67, _⟩ => ⟨S6x8x8192x128, .f32⟩
  | .hbm, ⟨68, _⟩ => ⟨S6x8x8192x128, .bf16⟩
  | .hbm, ⟨69, _⟩ => ⟨S6x8192x8x128, .f32⟩
  | .hbm, ⟨70, _⟩ => ⟨S6x8x8192x128, .f32⟩
  | .hbm, ⟨71, _⟩ => ⟨S6x8x8192x128, .bf16⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩

abbrev nD : Nat := 1
abbrev τ : Topo := Topo.v7x

variable {F : FTy → Type} [FloatOps F]
-- ==== Proof.Rows.lean ====
/-
A buffer of two row blocks, written row block by row block: what is read back at an index is the
payload of the last store into that index's row block.
-/
module

public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Rows

/-- Two blocks of 512 rows. -/
abbrev Two (n : ℕ) : Shape := ⟨3, ![2, 512, n]⟩
/-- One block of 512 rows. -/
abbrev One (n : ℕ) : Shape := ⟨3, ![1, 512, n]⟩

variable {n : ℕ} {φ : EltTy}

/-- The block of number `p`, as a rectangle of the two. -/
abbrev blk (p : ℕ) (h : ∀ a, (![p, 0, 0] : Fin 3 → ℕ) a + (One n).size a ≤ (Two n).size a) : Rect (Two n) :=
  Rect.unit (s := Two n) ![p, 0, 0] (One n).size h

theorem emb_blk (p : ℕ) (hp : p < 2) (h : ∀ a, (![p, 0, 0] : Fin 3 → ℕ) a + (One n).size a ≤ (Two n).size a)
    (b : Fin 1) (r : Fin 512) (d : Fin n) :
    (blk p h).emb (ix3 b r d : (One n).Idx) = (ix3 (⟨p, hp⟩ : Fin 2) r d : (Two n).Idx) := by
  funext a
  apply Fin.ext
  rw [Rect.emb_apply]
  fin_cases a
  · show p + 1 * b.val = p; omega
  · show 0 + 1 * r.val = r.val; omega
  · show 0 + 1 * d.val = d.val; omega

/-- The two row blocks of a buffer, one after the other. -/
def block (p : Fin 2) (x : (Two n).Idx → Elt Ideal φ) : (One n).Idx → Elt Ideal φ := fun j => x (ix3 p (j 1) (j 2))

theorem block_apply (p : Fin 2) (x : (Two n).Idx → Elt Ideal φ) (j : (One n).Idx) : block p x j = x (ix3 p (j 1) (j 2)) := rfl

theorem ld_blk (p : ℕ) (hp : p < 2) (h : ∀ a, (![p, 0, 0] : Fin 3 → ℕ) a + (One n).size a ≤ (Two n).size a)
    (x : (Two n).Idx → Elt Ideal φ) : View.ld x (blk p h) = block ⟨p, hp⟩ x := by
  funext j
  show x ((blk p h).emb j) = x (ix3 _ (j 1) (j 2))
  have : j = (ix3 (j 0) (j 1) (j 2) : (One n).Idx) := by funext a; fin_cases a <;> rfl
  rw [← emb_blk p hp h (j 0) (j 1) (j 2), ← this]

/-- An index of a row block reads the payload of the last store, when that went into the same block. -/
theorem read_same (p : ℕ) (hp : p < 2) (h : ∀ a, (![p, 0, 0] : Fin 3 → ℕ) a + (One n).size a ≤ (Two n).size a)
    (w : (One n).Idx → Elt Ideal φ) (L : List (View.Piece (Elt Ideal) (Two n) φ)) (q : Fin 2) (hq : q.val = p) (r : Fin 512) (d : Fin n) :
    View.canon ((⟨blk p h, w⟩ : View.Piece (Elt Ideal) (Two n) φ) :: L) (ix3 q r d) = w (ix3 0 r d) := by
  obtain rfl : q = ⟨p, hp⟩ := Fin.ext hq
  rw [← emb_blk p hp h 0 r d]
  exact View.canon_cons_emb _ _ _ _

/-- A store into the other row block is passed over. -/
theorem read_other (p : ℕ) (h : ∀ a, (![p, 0, 0] : Fin 3 → ℕ) a + (One n).size a ≤ (Two n).size a)
    (w : (One n).Idx → Elt Ideal φ) (L : List (View.Piece (Elt Ideal) (Two n) φ)) (q : Fin 2) (hq : q.val ≠ p) (r : Fin 512) (d : Fin n) :
    View.canon ((⟨blk p h, w⟩ : View.Piece (Elt Ideal) (Two n) φ) :: L) (ix3 q r d) = View.canon L (ix3 q r d) := by
  apply View.canon_cons_of_not_mem
  intro hm
  have := (Rect.mem_set_unit.mp (show ix3 q r d ∈ (Rect.unit (s := Two n) ![p, 0, 0] (One n).size h).set from hm)) 0
  have h1 : p ≤ q.val := this.1
  have h2 : q.val < p + 1 := this.2
  omega

/-- Loading row block `p` of what the stores left. -/
theorem readCov_blk {sig : RefSig} {κ : Kind} {sp : Space} (v : View sig κ sp (Two n) φ) (L : List (View.Piece (Elt Ideal) (Two n) φ))
    (p : ℕ) (hp : p < 2) (h : ∀ a, (![p, 0, 0] : Fin 3 → ℕ) a + (One n).size a ≤ (Two n).size a) :
    v.readCov L (blk p h).toLoadRect = block ⟨p, hp⟩ (View.canon L) := by
  rw [View.readCov_eq_canon']
  exact ld_blk p hp h _

/-- Row block `p` just stored. -/
theorem block_same (p : ℕ) (hp : p < 2) (h : ∀ a, (![p, 0, 0] : Fin 3 → ℕ) a + (One n).size a ≤ (Two n).size a)
    (w : (One n).Idx → Elt Ideal φ) (L : List (View.Piece (Elt Ideal) (Two n) φ)) (q : Fin 2) (hq : q.val = p) :
    block q (View.canon ((⟨blk p h, w⟩ : View.Piece (Elt Ideal) (Two n) φ) :: L)) = w := by
  funext j
  have e : j = (ix3 0 (j 1) (j 2) : (One n).Idx) := by
    funext a; fin_cases a
    · exact Subsingleton.elim (α := Fin 1) _ _
    · rfl
    · rfl
  rw [block_apply, read_same p hp h w L q hq (j 1) (j 2), ← e]

/-- Row block `q` when the other was just stored. -/
theorem block_other (p : ℕ) (h : ∀ a, (![p, 0, 0] : Fin 3 → ℕ) a + (One n).size a ≤ (Two n).size a)
    (w : (One n).Idx → Elt Ideal φ) (L : List (View.Piece (Elt Ideal) (Two n) φ)) (q : Fin 2) (hq : q.val ≠ p) :
    block q (View.canon ((⟨blk p h, w⟩ : View.Piece (Elt Ideal) (Two n) φ) :: L)) = block q (View.canon L) := by
  funext j
  rw [block_apply, block_apply, read_other p h w L q hq (j 1) (j 2)]

/-- A store of the whole buffer is what is read back. -/
theorem canon_whole (h : ∀ a, (![0, 0, 0] : Fin 3 → ℕ) a + (Two n).size a ≤ (Two n).size a) (w : (Two n).Idx → Elt Ideal φ)
    (L : List (View.Piece (Elt Ideal) (Two n) φ)) :
    View.canon ((⟨Rect.unit (s := Two n) ![0, 0, 0] (Two n).size h, w⟩ : View.Piece (Elt Ideal) (Two n) φ) :: L) = w :=
  View.canon_cons_unit_lit h w L (by intro a; fin_cases a <;> rfl)

section
variable {sig : RefSig} {κ : Kind} {sp : Space} (v : View sig κ sp (Two n) φ) (L : List (View.Piece (Elt Ideal) (Two n) φ))
  (h0 : ∀ a, (![0, 0, 0] : Fin 3 → ℕ) a + (One n).size a ≤ (Two n).size a)
  (h1 : ∀ a, (![1, 0, 0] : Fin 3 → ℕ) a + (One n).size a ≤ (Two n).size a)
  (h2 : ∀ a, (![0, 0, 0] : Fin 3 → ℕ) a + (Two n).size a ≤ (Two n).size a)
  (w0 w1 : (One n).Idx → Elt Ideal φ) (w : (Two n).Idx → Elt Ideal φ)

/-- Loading the second block just stored. -/
theorem load_second : v.readCov ((⟨blk 1 h1, w1⟩ : View.Piece (Elt Ideal) (Two n) φ) :: L) (blk 1 h1).toLoadRect = w1 := by
  rw [readCov_blk v _ 1 (by decide), block_same 1 (by decide) h1 w1 L _ rfl]

/-- Loading the first block, stored before the second. -/
theorem load_first : v.readCov ((⟨blk 1 h1, w1⟩ : View.Piece (Elt Ideal) (Two n) φ) :: (⟨blk 0 h0, w0⟩ : View.Piece (Elt Ideal) (Two n) φ) :: L)
    (blk 0 h0).toLoadRect = w0 := by
  rw [readCov_blk v _ 0 (by decide), block_other 1 h1 w1 _ _ (by decide), block_same 0 (by decide) h0 w0 L _ rfl]

/-- Loading a block of a buffer stored whole. -/
theorem load_whole0 : v.readCov ((⟨Rect.unit (s := Two n) ![0, 0, 0] (Two n).size h2, w⟩ : View.Piece (Elt Ideal) (Two n) φ) :: L)
    (blk 0 h0).toLoadRect = block 0 w := by
  rw [readCov_blk v _ 0 (by decide), canon_whole]; rfl

theorem load_whole1 : v.readCov ((⟨blk 0 h0, w0⟩ : View.Piece (Elt Ideal) (Two n) φ)
      :: (⟨Rect.unit (s := Two n) ![0, 0, 0] (Two n).size h2, w⟩ : View.Piece (Elt Ideal) (Two n) φ) :: L)
    (blk 1 h1).toLoadRect = block 1 w := by
  rw [readCov_blk v _ 1 (by decide), block_other 0 h0 w0 _ _ (by decide), canon_whole]; rfl

end

end Cert.Rows
-- ==== Proof.AttnPay.lean ====
/-
The values the attention kernel stores, read one element at a time: the two masked query blocks, the
scores of a block, the new running maximum, the rescaling factor, the weights, the running sum and
the running weighted sum of values.
-/
module

public import proofs.«01_k».proof.Proof.Gen.AttnIdeal.Skeleton
public import Idealize.ShloMosaic.Lib.Pointwise

@[expose] public section

set_option maxRecDepth 16384

noncomputable section

namespace Cert.AttnIdeal.Pay

open Idealize.ShloMosaic Idealize.ShloMosaic.TcCoe Idealize.SL.Sem
open Cert.AttnIdeal Cert.AttnIdeal.Gen

/-- The literal that starts every running maximum is minus infinity. -/
theorem neg_inf : (FloatOps.ofBits .f32 0xFF800000#32 : Ideal .f32) = (⊥ : EReal) := by
  rw [Ideal.ofBits_def]; simp [Ideal.ofBits, Ideal.ieee]

/-- Features below 64 are told from the others by the comparison of their numbers. -/
theorem below (d : Fin 128) : IntOp.cmpi .slt (BitVec.ofNat 32 d.val) 64#32 = if d.val < 64 then 1#1 else 0#1 :=
  by
  revert d; decide +kernel

theorem above (d : Fin 128) : IntOp.cmpi .sge (BitVec.ofNat 32 d.val) 64#32 = if d.val < 64 then 0#1 else 1#1 :=
  by
  revert d; decide +kernel

/-- The first masked query block keeps the first 64 features and is zero at the others. -/
theorem pay9_apply (q : FVec Ideal S1x1x512x128 .bf16) (r : Fin 512) (d : Fin 128) :
    k0_pay9 (F := Ideal) q (ix3 0 r d) = if d.val < 64 then q (ix4 0 0 r d) else 0 := by
  pointwise [k0_pay9, k0_pay7, k0_pay8]
  rw [below]; split <;> rfl

/-- The second masked query block keeps the last 64 features and is zero at the others. -/
theorem pay10_apply (q : FVec Ideal S1x1x512x128 .bf16) (r : Fin 512) (d : Fin 128) :
    k0_pay10 (F := Ideal) q (ix3 0 r d) = if d.val < 64 then 0 else q (ix4 0 0 r d) := by
  pointwise [k0_pay10, k0_pay7, k0_pay8]
  rw [above]; split <;> rfl

theorem pay11_apply (y : S2x512x1.Idx) : k0_pay11 (F := Ideal) y = (⊥ : EReal) := by
  pointwise [k0_pay11]
  exact neg_inf

theorem pay12_apply (y : S2x512x1.Idx) : k0_pay12 (F := Ideal) y = (0 : EReal) := by
  pointwise [k0_pay12]

theorem pay13_apply (y : S2x512x128.Idx) : k0_pay13 (F := Ideal) y = (0 : EReal) := by
  pointwise [k0_pay13]

/-- A score is the product of a query row with a key row. -/
theorem pay16_apply (k : FVec Ideal S1x1x512x128 .bf16) (qm : FVec Ideal S1x512x128 .bf16) (r c : Fin 512) :
    k0_pay16 (F := Ideal) k qm (ix2 r c) = ∑ d : Fin 128, qm (ix3 0 r d) * k (ix4 0 0 c d) := by
  pointwise [k0_pay16, k0_pay14]

/-- The new running maximum of a row. -/
theorem pay18_apply (k : FVec Ideal S1x1x512x128 .bf16) (qm : FVec Ideal S1x512x128 .bf16)
    (mx : FVec Ideal S1x512x1 .f32) (r : Fin 512) :
    k0_pay18 (F := Ideal) k qm mx (ix2 r 0)
      = max (mx (ix3 0 r 0)) (Finset.univ.sup fun c : Fin 512 => k0_pay16 (F := Ideal) k qm (ix2 r c)) := by
  pointwise [k0_pay18, k0_pay17]
  rw [show Ideal.ofBits .f32 0xFF800000#32 = (⊥ : EReal) from neg_inf]; rfl

theorem pay19_apply (k : FVec Ideal S1x1x512x128 .bf16) (qm : FVec Ideal S1x512x128 .bf16)
    (mx : FVec Ideal S1x512x1 .f32) (r : Fin 512) :
    k0_pay19 (F := Ideal) k qm mx (ix2 r 0)
      = Ideal.exp (mx (ix3 0 r 0) - k0_pay18 (F := Ideal) k qm mx (ix2 r 0)) := by
  pointwise [k0_pay19, k0_pay17]

theorem pay20_apply (k : FVec Ideal S1x1x512x128 .bf16) (qm : FVec Ideal S1x512x128 .bf16)
    (mx : FVec Ideal S1x512x1 .f32) (r c : Fin 512) :
    k0_pay20 (F := Ideal) k qm mx (ix2 r c)
      = Ideal.exp (k0_pay16 (F := Ideal) k qm (ix2 r c) - k0_pay18 (F := Ideal) k qm mx (ix2 r 0)) := by
  pointwise [k0_pay20]

/-- The new running sum of a row. -/
theorem pay21_apply (k : FVec Ideal S1x1x512x128 .bf16) (qm : FVec Ideal S1x512x128 .bf16)
    (mx l : FVec Ideal S1x512x1 .f32) (r : Fin 512) :
    k0_pay21 (F := Ideal) k qm mx l (ix3 0 r 0)
      = k0_pay19 (F := Ideal) k qm mx (ix2 r 0) * l (ix3 0 r 0)
        + ∑ c : Fin 512, k0_pay20 (F := Ideal) k qm mx (ix2 r c) := by
  pointwise [k0_pay21]

/-- The new running weighted sum of the values. -/
theorem pay22_apply (v : FVec Ideal S1x1x512x128 .bf16) (a : FVec Ideal S512x1 .f32)
    (p : FVec Ideal S512x512 .f32) (acc : FVec Ideal S1x512x128 .f32) (r : Fin 512) (d : Fin 128) :
    k0_pay22 (F := Ideal) (k0_pay15 v) a p acc (ix3 0 r d)
      = a (ix2 r 0) * acc (ix3 0 r d) + ∑ c : Fin 512, p (ix2 r c) * v (ix4 0 0 c d) := by
  pointwise [k0_pay22, k0_pay15]

theorem pay23_apply (x : FVec Ideal S512x1 .f32) (r : Fin 512) :
    k0_pay23 (F := Ideal) x (ix3 0 r 0) = x (ix2 r 0) := by
  pointwise [k0_pay23]

/-- The constant added to the difference of the two exponentials. -/
def lamInit : EReal := Ideal.ofBits .f32 0x3E4CCCCD#32

/-- The factor of the second map: `exp (Σ q1 k1) − exp (Σ q2 k2)` plus the constant. -/
def lam (q1 k1 q2 k2 : Fin 64 → EReal) : EReal :=
  Ideal.exp (∑ a, q1 a * k1 a) - Ideal.exp (∑ a, q2 a * k2 a) + lamInit

/-- The combination of the two maps before its normalization. -/
theorem pay5_apply (q1 k1 q2 k2 : FVec Ideal S1x64 .f32) (a0 : FVec Ideal S1x512x128 .f32) (l0 : FVec Ideal S1x512x1 .f32)
    (a1 : FVec Ideal S1x512x128 .f32) (l1 : FVec Ideal S1x512x1 .f32) (r : Fin 512) (d : Fin 128) :
    k0_pay5 (F := Ideal) q1 k1 q2 k2 a0 l0 a1 l1 (ix2 r d)
      = Ideal.div (a0 (ix3 0 r d)) (l0 (ix3 0 r 0))
        - lam (fun a => q1 (ix2 0 a)) (fun a => k1 (ix2 0 a)) (fun a => q2 (ix2 0 a)) (fun a => k2 (ix2 0 a))
          * Ideal.div (a1 (ix3 0 r d)) (l1 (ix3 0 r 0)) := by
  pointwise [k0_pay5, lam, lamInit]

/-- One element of a row `o` of 128, normalized by its mean square and scaled. -/
def norm (o : Fin 128 → EReal) (s : EReal) (d : Fin 128) : EReal :=
  o d * Ideal.rsqrt (Ideal.div (∑ e, o e * o e) (Ideal.ofBits .f32 0x43000000#32) + Ideal.ofBits .f32 0x358637BD#32) * s
    * Ideal.ofBits .f32 0x3F4CCCCD#32

/-- What the kernel writes into its result: the combination, normalized. -/
theorem pay4_apply (q1 k1 q2 k2 : FVec Ideal S1x64 .f32) (a0 : FVec Ideal S1x512x128 .f32) (l0 : FVec Ideal S1x512x1 .f32)
    (a1 : FVec Ideal S1x512x128 .f32) (l1 : FVec Ideal S1x512x1 .f32) (g : FVec Ideal S1x128 .f32) (r : Fin 512) (d : Fin 128) :
    k0_pay4 (F := Ideal) (k0_pay5 q1 k1 q2 k2 a0 l0 a1 l1) g (k0_pay6 q1 k1 q2 k2 a0 l0 a1 l1) (ix3 0 r d)
      = norm (fun e => k0_pay5 (F := Ideal) q1 k1 q2 k2 a0 l0 a1 l1 (ix2 r e)) (g (ix2 0 d)) d := by
  pointwise [k0_pay4, k0_pay6, norm]

end Cert.AttnIdeal.Pay
-- ==== Proof.AttnStep.lean ====
/-
One step of the attention: how the masked queries, the running maximum, the running sum and the
running weighted sum of each of the two maps at one key block come from those at the block before.
-/
module

public import proofs.«01_k».proof.Proof.Gen.AttnIdeal.Value
public import Idealize.ShloMosaic.Lib.Pointwise
public import Idealize.ShloMosaic.Lib.Pipeline.ValueKit
public import proofs.«01_k».proof.Proof.Rows
public import proofs.«01_k».proof.Proof.AttnPay

@[expose] public section

set_option maxRecDepth 16384

noncomputable section

open Idealize.ShloMosaic Idealize.ShloMosaic.TcCoe Idealize.SL.Sem
open Idealize.ShloMosaic.Pipeline (Dat)

namespace Cert.AttnIdeal.Step

open Cert.AttnIdeal Cert.AttnIdeal.Gen Cert.Rows

variable (m : (ℓ : Loc nD τ sig) → Buf (Elt Ideal) ℓ) (c : Dev nD) (t : Fin cfg0.N)

/-- The point before. -/
abbrev prev : ℕ := t.val - 1
theorem prev_lt : prev t < cfg0.N := Nat.lt_of_le_of_lt (Nat.sub_le _ _) t.isLt

/-- The state at the point before: the masked queries, the maxima, the sums, the weighted sums. -/
abbrev qm' : FVec Ideal S2x512x128 .bf16 := (outsAt0 m c (prev t) (prev_lt t)).2.1
abbrev mx' : FVec Ideal S2x512x1 .f32 := (outsAt0 m c (prev t) (prev_lt t)).2.2.1
abbrev sm' : FVec Ideal S2x512x1 .f32 := (outsAt0 m c (prev t) (prev_lt t)).2.2.2.1
abbrev ac' : FVec Ideal S2x512x128 .f32 := (outsAt0 m c (prev t) (prev_lt t)).2.2.2.2

/-- The state at the point. -/
abbrev qm : FVec Ideal S2x512x128 .bf16 := (outsAt0 m c t.val t.isLt).2.1
abbrev mx : FVec Ideal S2x512x1 .f32 := (outsAt0 m c t.val t.isLt).2.2.1
abbrev sm : FVec Ideal S2x512x1 .f32 := (outsAt0 m c t.val t.isLt).2.2.2.1
abbrev ac : FVec Ideal S2x512x128 .f32 := (outsAt0 m c t.val t.isLt).2.2.2.2

/-- Past the first key block the masked queries are kept. -/
theorem qm_keep (h0 : ¬t.val % 16 = 0) : qm m c t = qm' m c t := by
  unfold qm
  by_cases h1 : t.val % 16 = 15
  · rw [outsAt0_C m c t h0 h1]; dsimp only [sout0_C_0]
  · rw [outsAt0_B m c t h0 h1]; dsimp only [sout0_B_0]

/-- The new maxima. -/
theorem mx_step (h0 : ¬t.val % 16 = 0) (p : Fin 2) : block (n := 1) (φ := .f32) p (mx m c t)
      = k0_pay23 (F := Ideal) (k0_pay18 (iblk m c 6 t) (block (n := 128) (φ := .bf16) p (qm' m c t)) (block (n := 1) (φ := .f32) p (mx' m c t))) := by
  unfold mx
  by_cases h1 : t.val % 16 = 15
  · rw [outsAt0_C m c t h0 h1]
    frame_out
    simp only [read_unread_whole]
    fin_cases p
    · refine (block_other _ _ _ _ _ (by decide)).trans ((block_same _ (by decide) _ _ _ _ rfl).trans ?_)
      simp_rw [ld_blk 0 (by decide)]
    · refine (block_same _ (by decide) _ _ _ _ rfl).trans ?_
      simp_rw [ld_blk 1 (by decide)]; rfl
  · rw [outsAt0_B m c t h0 h1]
    frame_out
    simp only [read_unread_whole]
    fin_cases p
    · refine (block_other _ _ _ _ _ (by decide)).trans ((block_same _ (by decide) _ _ _ _ rfl).trans ?_)
      simp_rw [ld_blk 0 (by decide)]
    · refine (block_same _ (by decide) _ _ _ _ rfl).trans ?_
      simp_rw [ld_blk 1 (by decide)]; rfl

/-- The new sums. -/
theorem sm_step (h0 : ¬t.val % 16 = 0) (p : Fin 2) : block (n := 1) (φ := .f32) p (sm m c t)
      = k0_pay21 (F := Ideal) (iblk m c 6 t) (block (n := 128) (φ := .bf16) p (qm' m c t)) (block (n := 1) (φ := .f32) p (mx' m c t)) (block (n := 1) (φ := .f32) p (sm' m c t)) := by
  unfold sm
  by_cases h1 : t.val % 16 = 15
  · rw [outsAt0_C m c t h0 h1]
    frame_out
    simp only [read_unread_whole]
    fin_cases p
    · refine (block_other _ _ _ _ _ (by decide)).trans ((block_same _ (by decide) _ _ _ _ rfl).trans ?_)
      simp_rw [ld_blk 0 (by decide)]
    · refine (block_same _ (by decide) _ _ _ _ rfl).trans ?_
      simp_rw [ld_blk 1 (by decide)]; rfl
  · rw [outsAt0_B m c t h0 h1]
    frame_out
    simp only [read_unread_whole]
    fin_cases p
    · refine (block_other _ _ _ _ _ (by decide)).trans ((block_same _ (by decide) _ _ _ _ rfl).trans ?_)
      simp_rw [ld_blk 0 (by decide)]
    · refine (block_same _ (by decide) _ _ _ _ rfl).trans ?_
      simp_rw [ld_blk 1 (by decide)]; rfl

/-- The new weighted sums. -/
theorem ac_step (h0 : ¬t.val % 16 = 0) (p : Fin 2) : block (n := 128) (φ := .f32) p (ac m c t)
      = k0_pay22 (F := Ideal) (k0_pay15 (iblk m c 7 t)) (k0_pay19 (iblk m c 6 t) (block (n := 128) (φ := .bf16) p (qm' m c t)) (block (n := 1) (φ := .f32) p (mx' m c t)))
          (k0_pay20 (iblk m c 6 t) (block (n := 128) (φ := .bf16) p (qm' m c t)) (block (n := 1) (φ := .f32) p (mx' m c t))) (block (n := 128) (φ := .f32) p (ac' m c t)) := by
  unfold ac
  by_cases h1 : t.val % 16 = 15
  · rw [outsAt0_C m c t h0 h1]
    frame_out
    simp only [read_unread_whole]
    fin_cases p
    · refine (block_other _ _ _ _ _ (by decide)).trans ((block_same _ (by decide) _ _ _ _ rfl).trans ?_)
      simp_rw [ld_blk 0 (by decide)]
    · refine (block_same _ (by decide) _ _ _ _ rfl).trans ?_
      simp_rw [ld_blk 1 (by decide)]; rfl
  · rw [outsAt0_B m c t h0 h1]
    frame_out
    simp only [read_unread_whole]
    fin_cases p
    · refine (block_other _ _ _ _ _ (by decide)).trans ((block_same _ (by decide) _ _ _ _ rfl).trans ?_)
      simp_rw [ld_blk 0 (by decide)]
    · refine (block_same _ (by decide) _ _ _ _ rfl).trans ?_
      simp_rw [ld_blk 1 (by decide)]; rfl

/-- At the first key block the masked queries are those of the query block. -/
theorem qm_start (h0 : t.val % 16 = 0) : block (n := 128) (φ := .bf16) 0 (qm m c t) = k0_pay9 (F := Ideal) (iblk m c 5 t)
    ∧ block (n := 128) (φ := .bf16) 1 (qm m c t) = k0_pay10 (F := Ideal) (iblk m c 5 t) := by
  unfold qm
  rw [outsAt0_A m c t h0 (by omega)]
  frame_out
  constructor
  · exact (block_other _ _ _ _ _ (by decide)).trans (block_same _ (by decide) _ _ _ _ rfl)
  · exact block_same _ (by decide) _ _ _ _ rfl

/-- The new maxima at the first key block. -/
theorem mx_start (h0 : t.val % 16 = 0) (p : Fin 2) : block (n := 1) (φ := .f32) p (mx m c t)
      = k0_pay23 (F := Ideal) (k0_pay18 (iblk m c 6 t) (block (n := 128) (φ := .bf16) p (qm m c t)) (block (n := 1) (φ := .f32) p (k0_pay11 (F := Ideal)))) := by
  have e := qm_start m c t h0
  fin_cases p
  · rw [show block (n := 128) (φ := .bf16) ⟨0, by decide⟩ (qm m c t) = _ from e.1]
    unfold mx
    rw [outsAt0_A m c t h0 (by omega)]
    frame_out
    refine (block_other _ _ _ _ _ (by decide)).trans ((block_same _ (by decide) _ _ _ _ rfl).trans ?_)
    repeat rw [load_first]
    repeat rw [load_whole0]
    rfl
  · rw [show block (n := 128) (φ := .bf16) ⟨1, by decide⟩ (qm m c t) = _ from e.2]
    unfold mx
    rw [outsAt0_A m c t h0 (by omega)]
    frame_out
    refine (block_same _ (by decide) _ _ _ _ rfl).trans ?_
    repeat rw [load_second]
    repeat rw [load_whole1]
    rfl

/-- The new sums at the first key block. -/
theorem sm_start (h0 : t.val % 16 = 0) (p : Fin 2) : block (n := 1) (φ := .f32) p (sm m c t)
      = k0_pay21 (F := Ideal) (iblk m c 6 t) (block (n := 128) (φ := .bf16) p (qm m c t)) (block (n := 1) (φ := .f32) p (k0_pay11 (F := Ideal))) (block (n := 1) (φ := .f32) p (k0_pay12 (F := Ideal))) := by
  have e := qm_start m c t h0
  fin_cases p
  · rw [show block (n := 128) (φ := .bf16) ⟨0, by decide⟩ (qm m c t) = _ from e.1]
    unfold sm
    rw [outsAt0_A m c t h0 (by omega)]
    frame_out
    refine (block_other _ _ _ _ _ (by decide)).trans ((block_same _ (by decide) _ _ _ _ rfl).trans ?_)
    repeat rw [load_first]
    repeat rw [load_whole0]
    rfl
  · rw [show block (n := 128) (φ := .bf16) ⟨1, by decide⟩ (qm m c t) = _ from e.2]
    unfold sm
    rw [outsAt0_A m c t h0 (by omega)]
    frame_out
    refine (block_same _ (by decide) _ _ _ _ rfl).trans ?_
    repeat rw [load_second]
    repeat rw [load_whole1]
    rfl

/-- The new weighted sums at the first key block. -/
theorem ac_start (h0 : t.val % 16 = 0) (p : Fin 2) : block (n := 128) (φ := .f32) p (ac m c t)
      = k0_pay22 (F := Ideal) (k0_pay15 (iblk m c 7 t)) (k0_pay19 (iblk m c 6 t) (block (n := 128) (φ := .bf16) p (qm m c t)) (block (n := 1) (φ := .f32) p (k0_pay11 (F := Ideal))))
          (k0_pay20 (iblk m c 6 t) (block (n := 128) (φ := .bf16) p (qm m c t)) (block (n := 1) (φ := .f32) p (k0_pay11 (F := Ideal)))) (block (n := 128) (φ := .f32) p (k0_pay13 (F := Ideal))) := by
  have e := qm_start m c t h0
  fin_cases p
  · rw [show block (n := 128) (φ := .bf16) ⟨0, by decide⟩ (qm m c t) = _ from e.1]
    unfold ac
    rw [outsAt0_A m c t h0 (by omega)]
    frame_out
    refine (block_other _ _ _ _ _ (by decide)).trans ((block_same _ (by decide) _ _ _ _ rfl).trans ?_)
    repeat rw [load_first]
    repeat rw [load_whole0]
    rfl
  · rw [show block (n := 128) (φ := .bf16) ⟨1, by decide⟩ (qm m c t) = _ from e.2]
    unfold ac
    rw [outsAt0_A m c t h0 (by omega)]
    frame_out
    refine (block_same _ (by decide) _ _ _ _ rfl).trans ?_
    repeat rw [load_second]
    repeat rw [load_whole1]
    rfl

/-- What the last key block writes into the result, of the state it leaves. -/
theorem out (h1 : t.val % 16 = 15) : (outsAt0 m c t.val t.isLt).1
    = k0_pay4 (F := Ideal) (k0_pay5 (iblk m c 0 t) (iblk m c 1 t) (iblk m c 2 t) (iblk m c 3 t)
        (block (n := 128) (φ := .f32) 0 (ac m c t)) (block (n := 1) (φ := .f32) 0 (sm m c t))
        (block (n := 128) (φ := .f32) 1 (ac m c t)) (block (n := 1) (φ := .f32) 1 (sm m c t)))
        (iblk m c 4 t) (k0_pay6 (iblk m c 0 t) (iblk m c 1 t) (iblk m c 2 t) (iblk m c 3 t)
        (block (n := 128) (φ := .f32) 0 (ac m c t)) (block (n := 1) (φ := .f32) 0 (sm m c t))
        (block (n := 128) (φ := .f32) 1 (ac m c t)) (block (n := 1) (φ := .f32) 1 (sm m c t))) := by
  unfold ac sm
  rw [outsAt0_C m c t (by omega) h1]
  frame_out
  rw [show (0 : Fin 2) = ⟨0, by decide⟩ from rfl, show (1 : Fin 2) = ⟨1, by decide⟩ from rfl]
  simp_rw [← readCov_blk (View.whole cc0_scratch3) _ 0 (by decide) inb_S2x512x128_S1x512x128_0_0_0,
    ← readCov_blk (View.whole cc0_scratch3) _ 1 (by decide) inb_S2x512x128_S1x512x128_1_0_0,
    ← readCov_blk (View.whole cc0_scratch2) _ 0 (by decide) inb_S2x512x1_S1x512x1_0_0_0,
    ← readCov_blk (View.whole cc0_scratch2) _ 1 (by decide) inb_S2x512x1_S1x512x1_1_0_0]

end Cert.AttnIdeal.Step
-- ==== Proof.Softmax.lean ====
/- Facts about softmax over the extended reals, free of any program: how a running maximum, the running sum of
    exponentials and the running weighted sum move when a block of keys is appended, and what the difference of two
    softmax-weighted sums is. -/
module

public import Idealize.ShloMosaic.PureOps.Ideal
public import Mathlib.Data.EReal.Operations
public import Mathlib.Data.EReal.Inv

@[expose] public section

noncomputable section

namespace Cert.Softmax

open Idealize.ShloMosaic

/-- A finite factor that is not negative moves into a finite sum. -/
theorem mul_sum_nonneg {ι : Type} (s : Finset ι) (f : ι → EReal) (a : EReal) (h0 : 0 ≤ a) (h1 : a ≠ ⊤) :
    a * ∑ k ∈ s, f k = ∑ k ∈ s, a * f k := by
  classical
  induction s using Finset.induction_on with
  | empty => simp
  | insert k s hk ih => rw [Finset.sum_insert hk, Finset.sum_insert hk, EReal.left_distrib_of_nonneg_of_ne_top h0 h1, ih]

/-- Below the maximum, the exponential of the distance is a real number between zero and one. -/
theorem exp_sub_real (a b : EReal) (h : a ≤ b) : ∃ r : ℝ, 0 ≤ r ∧ Ideal.exp (a - b) = (r : EReal) := by
  induction b with
  | bot => obtain rfl : a = ⊥ := le_bot_iff.mp h; exact ⟨0, le_rfl, by simp⟩
  | top => exact ⟨0, le_rfl, by simp⟩
  | coe b =>
    induction a with
    | bot => exact ⟨0, le_rfl, by simp⟩
    | top => exact absurd (top_le_iff.mp h) (EReal.coe_ne_top b)
    | coe a => exact ⟨Real.exp (a - b), (Real.exp_pos _).le, by rw [← EReal.coe_sub, Ideal.exp_coe]⟩

/-- Rescaling from the maximum `b` to the larger maximum `c`. -/
theorem exp_mul_exp (a b c : EReal) (hab : a ≤ b) (hbc : b ≤ c) :
    Ideal.exp (b - c) * Ideal.exp (a - b) = Ideal.exp (a - c) := by
  induction c with
  | bot =>
    obtain rfl : b = ⊥ := le_bot_iff.mp hbc
    obtain rfl : a = ⊥ := le_bot_iff.mp hab
    simp
  | top => simp
  | coe c =>
    induction b with
    | bot => obtain rfl : a = ⊥ := le_bot_iff.mp hab; simp
    | top => exact absurd (top_le_iff.mp hbc) (EReal.coe_ne_top c)
    | coe b =>
      induction a with
      | bot => simp
      | top => exact absurd (top_le_iff.mp hab) (EReal.coe_ne_top b)
      | coe a =>
        rw [← EReal.coe_sub, ← EReal.coe_sub, ← EReal.coe_sub, Ideal.exp_coe, Ideal.exp_coe, Ideal.exp_coe,
          ← EReal.coe_mul, ← Real.exp_add]
        congr 2
        ring

/-- The maximum of the first `n` scores. -/
def runMax (S : ℕ → EReal) (n : ℕ) : EReal := (Finset.range n).sup S

/-- The sum of the first `n` exponentials, taken against the maximum of the first `n` scores and weighted by `V`. -/
def runSum (S V : ℕ → EReal) (n : ℕ) : EReal := ∑ k ∈ Finset.range n, Ideal.exp (S k - runMax S n) * V k

theorem runMax_zero (S : ℕ → EReal) : runMax S 0 = ⊥ := by simp [runMax]

theorem runSum_zero (S V : ℕ → EReal) : runSum S V 0 = 0 := by simp [runSum]

theorem le_runMax (S : ℕ → EReal) {n k : ℕ} (h : k < n) : S k ≤ runMax S n :=
  Finset.le_sup (f := S) (Finset.mem_range.mpr h)

/-- Appending `b` scores: the maximum is the larger of the old one and the block's. -/
theorem runMax_add (S : ℕ → EReal) (n b : ℕ) :
    runMax S (n + b) = max (runMax S n) (Finset.univ.sup fun k : Fin b => S (n + k)) := by
  apply le_antisymm
  · refine Finset.sup_le fun k hk => ?_
    rcases lt_or_ge k n with h | h
    · exact le_max_of_le_left (le_runMax S h)
    · have hb : k - n < b := by have := Finset.mem_range.mp hk; omega
      refine le_max_of_le_right ?_
      have := Finset.le_sup (f := fun k : Fin b => S (n + k)) (Finset.mem_univ (⟨k - n, hb⟩ : Fin b))
      simpa [Nat.add_sub_cancel' h] using this
  · refine max_le (Finset.sup_le fun k hk => le_runMax S (by have := Finset.mem_range.mp hk; omega)) ?_
    exact Finset.sup_le fun k _ => le_runMax S (by have := k.isLt; omega)

theorem runMax_le_add (S : ℕ → EReal) (n b : ℕ) : runMax S n ≤ runMax S (n + b) := by
  rw [runMax_add]; exact le_max_left _ _

/-- Appending `b` scores: the old sum is rescaled to the new maximum and the block's terms are added. -/
theorem runSum_add (S V : ℕ → EReal) (n b : ℕ) :
    runSum S V (n + b) = Ideal.exp (runMax S n - runMax S (n + b)) * runSum S V n
      + ∑ k : Fin b, Ideal.exp (S (n + k) - runMax S (n + b)) * V (n + k) := by
  obtain ⟨r, hr, he⟩ := exp_sub_real _ _ (runMax_le_add S n b)
  have h0 : (0 : EReal) ≤ Ideal.exp (runMax S n - runMax S (n + b)) := by rw [he]; exact_mod_cast hr
  have h1 : Ideal.exp (runMax S n - runMax S (n + b)) ≠ ⊤ := by rw [he]; exact EReal.coe_ne_top r
  have hsum : Ideal.exp (runMax S n - runMax S (n + b)) * runSum S V n
      = ∑ k ∈ Finset.range n, Ideal.exp (S k - runMax S (n + b)) * V k := by
    unfold runSum
    rw [mul_sum_nonneg _ _ _ h0 h1]
    refine Finset.sum_congr rfl fun k hk => ?_
    rw [← mul_assoc, exp_mul_exp _ _ _ (le_runMax S (Finset.mem_range.mp hk)) (runMax_le_add S n b)]
  rw [hsum]
  conv_lhs => unfold runSum
  rw [Finset.sum_range_add, Finset.sum_range (n := b)]

/-- A weighted sum of exponentials against finite weights is a real number, and its unweighted sum is not negative. -/
theorem exp_real (S : ℕ → EReal) (n : ℕ) :
    ∃ f : ℕ → ℝ, (∀ k, 0 ≤ f k) ∧ ∀ k < n, Ideal.exp (S k - runMax S n) = (f k : EReal) := by
  have h : ∀ k, ∃ r : ℝ, 0 ≤ r ∧ (k < n → Ideal.exp (S k - runMax S n) = (r : EReal)) := fun k => by
    by_cases hk : k < n
    · obtain ⟨r, hr, he⟩ := exp_sub_real _ _ (le_runMax S hk)
      exact ⟨r, hr, fun _ => he⟩
    · exact ⟨0, le_rfl, fun h => absurd h hk⟩
  choose f hf hfe using h
  exact ⟨f, hf, fun k hk => hfe k hk⟩

theorem coe_sum {ι : Type} (s : Finset ι) (f : ι → ℝ) : ∑ k ∈ s, (f k : EReal) = ((∑ k ∈ s, f k : ℝ) : EReal) := by
  classical
  induction s using Finset.induction_on with
  | empty => simp
  | insert k s hk ih => rw [Finset.sum_insert hk, Finset.sum_insert hk, ih, EReal.coe_add]

/-- What a division by zero or a sum of such divisions can be. -/
def Junk (x : EReal) : Prop := x = ⊥ ∨ x = ⊤ ∨ x = 0

theorem Junk.add {x y : EReal} (hx : Junk x) (hy : Junk y) : Junk (x + y) := by
  rcases hx with rfl | rfl | rfl <;> rcases hy with rfl | rfl | rfl <;> simp [Junk]

theorem Junk.sum {ι : Type} (s : Finset ι) (f : ι → EReal) (h : ∀ k ∈ s, Junk (f k)) : Junk (∑ k ∈ s, f k) := by
  classical
  induction s using Finset.induction_on with
  | empty => simp [Junk]
  | insert k s hk ih =>
    rw [Finset.sum_insert hk]
    exact (h k (Finset.mem_insert_self _ _)).add (ih fun j hj => h j (Finset.mem_insert_of_mem hj))

theorem Junk.mul_coe {x : EReal} (hx : Junk x) (r : ℝ) : Junk (x * (r : EReal)) := by
  rcases lt_trichotomy r 0 with h | rfl | h
  · rcases hx with rfl | rfl | rfl
    · rw [EReal.bot_mul_coe_of_neg h]; simp [Junk]
    · rw [EReal.top_mul_coe_of_neg h]; simp [Junk]
    · simp [Junk]
  · simp [Junk]
  · rcases hx with rfl | rfl | rfl
    · rw [EReal.bot_mul_coe_of_pos h]; simp [Junk]
    · rw [EReal.top_mul_coe_of_pos h]; simp [Junk]
    · simp [Junk]

/-- A row of infinities and zeros is normalized to zero. -/
theorem Junk.normalized {n : ℕ} (o : Fin n → EReal) (h : ∀ e, Junk (o e)) (d eps : ℝ) (hd : 0 < d) (e : Fin n) :
    o e * Ideal.rsqrt (Ideal.div (∑ j, o j * o j) (d : EReal) + (eps : EReal)) = 0 := by
  by_cases hz : ∃ j, o j ≠ 0
  · obtain ⟨j, hj⟩ := hz
    have hsq : ∀ i, 0 ≤ o i * o i := fun i => by rcases h i with hi | hi | hi <;> rw [hi] <;> simp
    have htop : o j * o j = ⊤ := by rcases h j with hi | hi | hi <;> first | exact absurd hi hj | (rw [hi]; simp)
    have hs : ∑ i, o i * o i = ⊤ := by
      refine top_le_iff.mp ?_
      rw [← htop]
      exact Finset.single_le_sum (f := fun i => o i * o i) (fun i _ => hsq i) (Finset.mem_univ j)
    rw [hs, Ideal.div, if_neg (by exact_mod_cast hd.ne'), ← EReal.coe_inv, EReal.top_mul_coe_of_pos (inv_pos.mpr hd),
      EReal.top_add_coe]
    rw [show Ideal.rsqrt ⊤ = 0 from rfl, mul_zero]
  · rw [not_exists] at hz
    rw [not_not.mp (hz e), zero_mul]

/-- The two ways of taking the difference of two softmax maps against finite values: each map applied to the values and
    divided by its sum first, or the divided maps subtracted first. They agree, unless a sum of exponentials is zero, when
    every entry of both rows is an infinity or zero. -/
theorem diff_maps {E : Type} (N : ℕ) (S0 S1 : ℕ → EReal) (v : ℕ → E → ℝ) (lam : ℝ) :
    (∀ e, Ideal.div (runSum S0 (fun k => (v k e : EReal)) N) (runSum S0 (fun _ => 1) N)
        - (lam : EReal) * Ideal.div (runSum S1 (fun k => (v k e : EReal)) N) (runSum S1 (fun _ => 1) N)
      = ∑ k ∈ Finset.range N, (v k e : EReal) *
          (Ideal.div (Ideal.exp (S0 k - runMax S0 N)) (runSum S0 (fun _ => 1) N)
            - (lam : EReal) * Ideal.div (Ideal.exp (S1 k - runMax S1 N)) (runSum S1 (fun _ => 1) N)))
    ∨ (∀ e, Junk (Ideal.div (runSum S0 (fun k => (v k e : EReal)) N) (runSum S0 (fun _ => 1) N)
        - (lam : EReal) * Ideal.div (runSum S1 (fun k => (v k e : EReal)) N) (runSum S1 (fun _ => 1) N)))
      ∧ (∀ e, Junk (∑ k ∈ Finset.range N, (v k e : EReal) *
          (Ideal.div (Ideal.exp (S0 k - runMax S0 N)) (runSum S0 (fun _ => 1) N)
            - (lam : EReal) * Ideal.div (Ideal.exp (S1 k - runMax S1 N)) (runSum S1 (fun _ => 1) N)))) := by
  obtain ⟨f, hf0, hf⟩ := exp_real S0 N
  obtain ⟨g, hg0, hg⟩ := exp_real S1 N
  have hL (S : ℕ → EReal) (f : ℕ → ℝ) (hf : ∀ k < N, Ideal.exp (S k - runMax S N) = (f k : EReal)) :
      runSum S (fun _ => 1) N = ((∑ k ∈ Finset.range N, f k : ℝ) : EReal) := by
    unfold runSum
    rw [← coe_sum]
    exact Finset.sum_congr rfl fun k hk => by rw [mul_one, hf k (Finset.mem_range.mp hk)]
  have hA (S : ℕ → EReal) (f : ℕ → ℝ) (hf : ∀ k < N, Ideal.exp (S k - runMax S N) = (f k : EReal)) (e : E) :
      runSum S (fun k => (v k e : EReal)) N = ((∑ k ∈ Finset.range N, f k * v k e : ℝ) : EReal) := by
    unfold runSum
    rw [← coe_sum]
    exact Finset.sum_congr rfl fun k hk => by rw [hf k (Finset.mem_range.mp hk), EReal.coe_mul]
  have hz (f : ℕ → ℝ) (hf0 : ∀ k, 0 ≤ f k) (h : ∑ k ∈ Finset.range N, f k = 0) : ∀ k < N, f k = 0 := fun k hk =>
    (Finset.sum_eq_zero_iff_of_nonneg fun k _ => hf0 k).mp h k (Finset.mem_range.mpr hk)
  have hd0 : Ideal.div 0 0 = ⊥ := by simp [Ideal.div]
  have hdc (a b : ℝ) (hb : b ≠ 0) : Ideal.div (a : EReal) (b : EReal) = ((a / b : ℝ) : EReal) := by
    rw [Ideal.div, if_neg (by exact_mod_cast hb), ← EReal.coe_inv, ← EReal.coe_mul, div_eq_mul_inv]
  have hR (e : E) : ∑ k ∈ Finset.range N, (v k e : EReal) *
          (Ideal.div (Ideal.exp (S0 k - runMax S0 N)) (runSum S0 (fun _ => 1) N)
            - (lam : EReal) * Ideal.div (Ideal.exp (S1 k - runMax S1 N)) (runSum S1 (fun _ => 1) N))
      = ∑ k ∈ Finset.range N, (v k e : EReal) *
          (Ideal.div (f k : EReal) ((∑ k ∈ Finset.range N, f k : ℝ) : EReal)
            - (lam : EReal) * Ideal.div (g k : EReal) ((∑ k ∈ Finset.range N, g k : ℝ) : EReal)) :=
    Finset.sum_congr rfl fun k hk => by
      rw [hL S0 f hf, hL S1 g hg, hf k (Finset.mem_range.mp hk), hg k (Finset.mem_range.mp hk)]
  simp only [hR]
  simp only [hL S0 f hf, hL S1 g hg, hA S0 f hf, hA S1 g hg]
  by_cases h0 : ∑ k ∈ Finset.range N, f k = 0
  · right
    have hfz := hz f hf0 h0
    have ha (e : E) : ∑ k ∈ Finset.range N, f k * v k e = 0 :=
      Finset.sum_eq_zero fun k hk => by rw [hfz k (Finset.mem_range.mp hk), zero_mul]
    refine ⟨fun e => ?_, fun e => Junk.sum _ _ fun k hk => ?_⟩
    · rw [ha, h0, EReal.coe_zero, hd0, EReal.bot_sub]; exact Or.inl rfl
    · rw [h0, hfz k (Finset.mem_range.mp hk), EReal.coe_zero, hd0, EReal.bot_sub, mul_comm]
      exact Junk.mul_coe (Or.inl rfl) _
  · by_cases h1 : lam ≠ 0 ∧ ∑ k ∈ Finset.range N, g k = 0
    · obtain ⟨hl, h1⟩ := h1
      right
      have hgz := hz g hg0 h1
      have ha (e : E) : ∑ k ∈ Finset.range N, g k * v k e = 0 :=
        Finset.sum_eq_zero fun k hk => by rw [hgz k (Finset.mem_range.mp hk), zero_mul]
      have hsub (a : ℝ) : Junk ((a : EReal) - (lam : EReal) * ⊥) := by
        rcases lt_or_gt_of_ne hl with h | h
        · rw [EReal.coe_mul_bot_of_neg h]; exact Or.inl (by simp [sub_eq_add_neg])
        · rw [EReal.coe_mul_bot_of_pos h]; exact Or.inr (Or.inl (by simp [sub_eq_add_neg]))
      refine ⟨fun e => ?_, fun e => Junk.sum _ _ fun k hk => ?_⟩
      · rw [ha, h1, EReal.coe_zero, hd0, hdc _ _ h0]; exact hsub _
      · rw [h1, hgz k (Finset.mem_range.mp hk), EReal.coe_zero, hd0, hdc _ _ h0, mul_comm]
        exact (hsub _).mul_coe _
    · left
      intro e
      rw [hdc _ _ h0]
      simp only [hdc _ _ h0]
      by_cases hl : lam = 0
      · subst hl
        simp only [EReal.coe_zero, zero_mul, sub_zero, ← EReal.coe_mul, coe_sum]
        congr 1
        rw [Finset.sum_div]
        exact Finset.sum_congr rfl fun k _ => by ring
      · have hg1 : ∑ k ∈ Finset.range N, g k ≠ 0 := fun h => h1 ⟨hl, h⟩
        rw [hdc _ _ hg1]
        simp only [hdc _ _ hg1, ← EReal.coe_mul, ← EReal.coe_sub, coe_sum]
        congr 1
        rw [Finset.sum_div, Finset.sum_div, Finset.mul_sum, ← Finset.sum_sub_distrib]
        exact Finset.sum_congr rfl fun k _ => by ring

end Cert.Softmax

end
-- ==== Proof.AttnFold.lean ====
/-
The attention over the 16 key blocks of one query block: what the state holds at a point is the
running maximum, sum and weighted sum of the scores of all keys up to that point's block.
-/
module

public import proofs.«01_k».proof.Proof.AttnStep
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.AttnIdeal.Fold

open Cert.AttnIdeal Cert.AttnIdeal.Gen Cert.Rows Cert.AttnIdeal.Step Cert.Softmax Cert.AttnIdeal.Pay

theorem lt_N (t : Fin cfg0.N) : t.val < 12288 := lt_of_lt_of_eq t.isLt N_0

/-- The grid coordinates of a point: the sequence, the head, the query block, the key block. -/
theorem coord (t : Fin cfg0.N) : (grid0.coords t 0).val = t.val / 2048 ∧ (grid0.coords t 1).val = t.val / 256 % 8
    ∧ (grid0.coords t 2).val = t.val / 16 % 16 ∧ (grid0.coords t 3).val = t.val % 16 := by
  have h := lt_N t
  refine ⟨(Pipeline.Grid.coords_val t 0 (S := 2048) (B := 6) (by decide) rfl).trans (by omega),
    Pipeline.Grid.coords_val t 1 (S := 256) (B := 8) (by decide) rfl,
    Pipeline.Grid.coords_val t 2 (S := 16) (B := 16) (by decide) rfl,
    (Pipeline.Grid.coords_val t 3 (S := 1) (B := 16) (by decide) rfl).trans (by omega)⟩

theorem word (x : ℕ) (h : x < 12288) : (BitVec.ofNat 32 x).toNat = x := by
  rw [BitVec.toNat_ofNat]; exact Nat.mod_eq_of_lt (by omega)

/-- The block index of every window at every grid point. -/
theorem idx (t : Fin cfg0.N) : win0_0.index t = ![0, 0] ∧ win0_1.index t = ![0, 0] ∧ win0_2.index t = ![0, 0]
    ∧ win0_3.index t = ![0, 0] ∧ win0_4.index t = ![0, 0]
    ∧ win0_5.index t = ![t.val / 2048, t.val / 256 % 8, t.val / 16 % 16, 0]
    ∧ win0_6.index t = ![t.val / 2048, t.val / 256 % 8, t.val % 16, 0]
    ∧ win0_7.index t = ![t.val / 2048, t.val / 256 % 8, t.val % 16, 0]
    ∧ win0_8.index t = ![t.val / 2048, t.val / 16 % 16, t.val / 256 % 8] := by
  have h := lt_N t
  obtain ⟨e0, e1, e2, e3⟩ := coord t
  have w0 : (BitVec.ofNat 32 (grid0.coords t 0).val).toNat = t.val / 2048 := by rw [e0]; exact word _ (by omega)
  have w1 : (BitVec.ofNat 32 (grid0.coords t 1).val).toNat = t.val / 256 % 8 := by rw [e1]; exact word _ (by omega)
  have w2 : (BitVec.ofNat 32 (grid0.coords t 2).val).toNat = t.val / 16 % 16 := by rw [e2]; exact word _ (by omega)
  have w3 : (BitVec.ofNat 32 (grid0.coords t 3).val).toNat = t.val % 16 := by rw [e3]; exact word _ (by omega)
  refine ⟨rfl, rfl, rfl, rfl, rfl, ?_, ?_, ?_, ?_⟩
  · show ![(BitVec.ofNat 32 (grid0.coords t 0).val).toNat, (BitVec.ofNat 32 (grid0.coords t 1).val).toNat,
      (BitVec.ofNat 32 (grid0.coords t 2).val).toNat, 0] = _
    rw [w0, w1, w2]
  · show ![(BitVec.ofNat 32 (grid0.coords t 0).val).toNat, (BitVec.ofNat 32 (grid0.coords t 1).val).toNat,
      (BitVec.ofNat 32 (grid0.coords t 3).val).toNat, 0] = _
    rw [w0, w1, w3]
  · show ![(BitVec.ofNat 32 (grid0.coords t 0).val).toNat, (BitVec.ofNat 32 (grid0.coords t 1).val).toNat,
      (BitVec.ofNat 32 (grid0.coords t 3).val).toNat, 0] = _
    rw [w0, w1, w3]
  · show ![(BitVec.ofNat 32 (grid0.coords t 0).val).toNat, (BitVec.ofNat 32 (grid0.coords t 2).val).toNat,
      (BitVec.ofNat 32 (grid0.coords t 1).val).toNat] = _
    rw [w0, w2, w1]

/-- One key block: the state after `n + 512` keys from the state after `n`. -/
theorem step (k v : FVec Ideal S1x1x512x128 .bf16) (bq : FVec Ideal S1x512x128 .bf16) (bm bs : FVec Ideal S1x512x1 .f32)
    (ba : FVec Ideal S1x512x128 .f32) (r : Fin 512) (n : ℕ) (S : ℕ → EReal) (V : Fin 128 → ℕ → EReal)
    (hS : ∀ c : Fin 512, k0_pay16 (F := Ideal) k bq (ix2 r c) = S (n + c.val))
    (hV : ∀ (c : Fin 512) (d : Fin 128), v (ix4 0 0 c d) = V d (n + c.val))
    (hm : bm (ix3 0 r 0) = runMax S n) (hs : bs (ix3 0 r 0) = runSum S (fun _ => 1) n)
    (ha : ∀ d : Fin 128, ba (ix3 0 r d) = runSum S (V d) n) :
    k0_pay23 (F := Ideal) (k0_pay18 k bq bm) (ix3 0 r 0) = runMax S (n + 512)
    ∧ k0_pay21 (F := Ideal) k bq bm bs (ix3 0 r 0) = runSum S (fun _ => 1) (n + 512)
    ∧ ∀ d : Fin 128, k0_pay22 (F := Ideal) (k0_pay15 v) (k0_pay19 k bq bm) (k0_pay20 k bq bm) ba (ix3 0 r d)
        = runSum S (V d) (n + 512) := by
  have e18 : k0_pay18 (F := Ideal) k bq bm (ix2 r 0) = runMax S (n + 512) := by
    rw [pay18_apply, hm, runMax_add]
    congr 1
    exact Finset.sup_congr rfl fun c _ => hS c
  refine ⟨by rw [pay23_apply, e18], ?_, fun d => ?_⟩
  · rw [pay21_apply, pay19_apply, e18, hm, hs, runSum_add]
    congr 1
    refine Finset.sum_congr rfl fun c _ => ?_
    rw [pay20_apply, e18, hS, mul_one]
  · rw [pay22_apply, pay19_apply, e18, hm, ha, runSum_add]
    congr 1
    refine Finset.sum_congr rfl fun c _ => ?_
    rw [pay20_apply, e18, hS, hV]

variable (m : (ℓ : Loc nD τ sig) → Buf (Elt Ideal) ℓ) (c : Dev nD) (t : Fin cfg0.N)

/-- The arguments of the launch on device `c`. -/
abbrev Q : FVec Ideal S6x8x8192x128 .bf16 := m ((c : Thread nD τ).loc main_arg0)
abbrev K : FVec Ideal S6x8x8192x128 .bf16 := m ((c : Thread nD τ).loc main_arg1)
abbrev W : FVec Ideal S6x8x8192x128 .bf16 := m ((c : Thread nD τ).loc main_arg2)

/-- The sequence, the head and the query row that row `r` of the point's block stands for. -/
def sq : Fin 6 := ⟨t.val / 2048, by have := lt_N t; omega⟩
def hd : Fin 8 := ⟨t.val / 256 % 8, by omega⟩
def row (r : Fin 512) : Fin 8192 := ⟨t.val / 16 % 16 * 512 + r.val, by omega⟩
def key (k : Fin 512) : Fin 8192 := ⟨t.val % 16 * 512 + k.val, by omega⟩

theorem blk5 (r : Fin 512) (d : Fin 128) : iblk m c 5 t (ix4 0 0 r d) = Q m c (ix4 (sq t) (hd t) (row t r) d) := by
  unfold sq hd row; blk_point [iblk, V, idx t]

theorem blk6 (r : Fin 512) (d : Fin 128) : iblk m c 6 t (ix4 0 0 r d) = K m c (ix4 (sq t) (hd t) (key t r) d) := by
  unfold sq hd key; blk_point [iblk, V, idx t]

theorem blk7 (r : Fin 512) (d : Fin 128) : iblk m c 7 t (ix4 0 0 r d) = W m c (ix4 (sq t) (hd t) (key t r) d) := by
  unfold sq hd key; blk_point [iblk, V, idx t]

/-- A query feature as map `p` sees it: the first map has the first 64 features, the second the others. -/
def mask (p : Fin 2) (d : Fin 128) (x : EReal) : EReal := if p = 0 then (if d.val < 64 then x else 0) else if d.val < 64 then 0 else x

/-- The score of map `p`: a query row against key number `k`. -/
def scores (q k : FVec Ideal S6x8x8192x128 .bf16) (p : Fin 2) (s : Fin 6) (h : Fin 8) (r : Fin 8192) (n : ℕ) : EReal :=
  if hn : n < 8192 then ∑ d : Fin 128, mask p d (q (ix4 s h r d)) * k (ix4 s h ⟨n, hn⟩ d) else 0

/-- Feature `d` of the value of key number `k`. -/
def vals (v : FVec Ideal S6x8x8192x128 .bf16) (s : Fin 6) (h : Fin 8) (d : Fin 128) (n : ℕ) : EReal :=
  if hn : n < 8192 then v (ix4 s h ⟨n, hn⟩ d) else 0

abbrev SC (p : Fin 2) (r : Fin 512) : ℕ → EReal := scores (Q m c) (K m c) p (sq t) (hd t) (row t r)
abbrev VL (d : Fin 128) : ℕ → EReal := vals (W m c) (sq t) (hd t) d

/-- What the state holds at a point. -/
structure Inv : Prop where
  q : ∀ (p : Fin 2) (r : Fin 512) (d : Fin 128), qm m c t (ix3 p r d) = mask p d (Q m c (ix4 (sq t) (hd t) (row t r) d))
  mx : ∀ (p : Fin 2) (r : Fin 512), mx m c t (ix3 p r 0) = runMax (SC m c t p r) (t.val % 16 * 512 + 512)
  sm : ∀ (p : Fin 2) (r : Fin 512), sm m c t (ix3 p r 0) = runSum (SC m c t p r) (fun _ => 1) (t.val % 16 * 512 + 512)
  ac : ∀ (p : Fin 2) (r : Fin 512) (d : Fin 128), ac m c t (ix3 p r d) = runSum (SC m c t p r) (VL m c t d) (t.val % 16 * 512 + 512)

theorem score_eq (bq : FVec Ideal S1x512x128 .bf16) (p : Fin 2) (r : Fin 512)
    (hq : ∀ d : Fin 128, bq (ix3 0 r d) = mask p d (Q m c (ix4 (sq t) (hd t) (row t r) d))) (k : Fin 512) :
    k0_pay16 (F := Ideal) (iblk m c 6 t) bq (ix2 r k) = SC m c t p r (t.val % 16 * 512 + k.val) := by
  rw [pay16_apply, SC, scores, dif_pos (show t.val % 16 * 512 + k.val < 8192 from (key t k).isLt)]
  exact Finset.sum_congr rfl fun d _ => by rw [hq, blk6]; rfl

theorem val_eq (k : Fin 512) (d : Fin 128) : iblk m c 7 t (ix4 0 0 k d) = VL m c t d (t.val % 16 * 512 + k.val) := by
  rw [blk7, VL, vals, dif_pos (show t.val % 16 * 512 + k.val < 8192 from (key t k).isLt)]; rfl

/-- The first key block. -/
theorem inv_start (h0 : t.val % 16 = 0) : Inv m c t := by
  have hq : ∀ (p : Fin 2) (r : Fin 512) (d : Fin 128), qm m c t (ix3 p r d) = mask p d (Q m c (ix4 (sq t) (hd t) (row t r) d)) := by
    intro p r d
    obtain ⟨e0, e1⟩ := qm_start m c t h0
    fin_cases p
    · refine (congrFun e0 (ix3 0 r d)).trans ?_
      rw [pay9_apply, blk5]; rfl
    · refine (congrFun e1 (ix3 0 r d)).trans ?_
      rw [pay10_apply, blk5]; rfl
  have key := fun (p : Fin 2) (r : Fin 512) => step (iblk m c 6 t) (iblk m c 7 t) (block (n := 128) (φ := .bf16) p (qm m c t))
    (block (n := 1) (φ := .f32) p (k0_pay11 (F := Ideal))) (block (n := 1) (φ := .f32) p (k0_pay12 (F := Ideal)))
    (block (n := 128) (φ := .f32) p (k0_pay13 (F := Ideal))) r (t.val % 16 * 512) (SC m c t p r) (VL m c t)
    (score_eq m c t _ p r fun d => hq p r d) (val_eq m c t)
    (by rw [h0]; exact (pay11_apply _).trans (runMax_zero _).symm) (by rw [h0]; exact (pay12_apply _).trans (runSum_zero _ _).symm)
    (fun d => by rw [h0]; exact (pay13_apply _).trans (runSum_zero _ _).symm)
  exact ⟨hq, fun p r => (congrFun (mx_start m c t h0 p) (ix3 0 r 0)).trans (key p r).1,
    fun p r => (congrFun (sm_start m c t h0 p) (ix3 0 r 0)).trans (key p r).2.1,
    fun p r d => (congrFun (ac_start m c t h0 p) (ix3 0 r d)).trans ((key p r).2.2 d)⟩

/-- A later key block, from the one before. -/
theorem inv_step (h0 : ¬t.val % 16 = 0) (ih : Inv m c ⟨prev t, prev_lt t⟩) : Inv m c t := by
  have es : sq ⟨prev t, prev_lt t⟩ = sq t := by unfold sq; apply Fin.ext; show (t.val - 1) / 2048 = t.val / 2048; omega
  have eh : hd ⟨prev t, prev_lt t⟩ = hd t := by unfold hd; apply Fin.ext; show (t.val - 1) / 256 % 8 = t.val / 256 % 8; omega
  have er : ∀ r, row ⟨prev t, prev_lt t⟩ r = row t r := by
    intro r; unfold row; apply Fin.ext; show (t.val - 1) / 16 % 16 * 512 + r.val = t.val / 16 % 16 * 512 + r.val; omega
  have en : (t.val - 1) % 16 * 512 + 512 = t.val % 16 * 512 := by omega
  have hq : ∀ (p : Fin 2) (r : Fin 512) (d : Fin 128), qm' m c t (ix3 p r d) = mask p d (Q m c (ix4 (sq t) (hd t) (row t r) d)) := by
    intro p r d
    have := ih.q p r d
    rw [es, eh, er] at this
    exact this
  have hm : ∀ (p : Fin 2) (r : Fin 512), mx' m c t (ix3 p r 0) = runMax (SC m c t p r) (t.val % 16 * 512) := by
    intro p r
    have := ih.mx p r
    rw [SC, es, eh, er, show (⟨prev t, prev_lt t⟩ : Fin cfg0.N).val % 16 * 512 + 512 = t.val % 16 * 512 from en] at this
    exact this
  have hs : ∀ (p : Fin 2) (r : Fin 512), sm' m c t (ix3 p r 0) = runSum (SC m c t p r) (fun _ => 1) (t.val % 16 * 512) := by
    intro p r
    have := ih.sm p r
    rw [SC, es, eh, er, show (⟨prev t, prev_lt t⟩ : Fin cfg0.N).val % 16 * 512 + 512 = t.val % 16 * 512 from en] at this
    exact this
  have ha : ∀ (p : Fin 2) (r : Fin 512) (d : Fin 128), ac' m c t (ix3 p r d) = runSum (SC m c t p r) (VL m c t d) (t.val % 16 * 512) := by
    intro p r d
    have := ih.ac p r d
    rw [SC, VL, es, eh, er, show (⟨prev t, prev_lt t⟩ : Fin cfg0.N).val % 16 * 512 + 512 = t.val % 16 * 512 from en] at this
    exact this
  have key := fun (p : Fin 2) (r : Fin 512) => step (iblk m c 6 t) (iblk m c 7 t) (block (n := 128) (φ := .bf16) p (qm' m c t))
    (block (n := 1) (φ := .f32) p (mx' m c t)) (block (n := 1) (φ := .f32) p (sm' m c t))
    (block (n := 128) (φ := .f32) p (ac' m c t)) r (t.val % 16 * 512) (SC m c t p r) (VL m c t)
    (score_eq m c t _ p r fun d => hq p r d) (val_eq m c t) (hm p r) (hs p r) (ha p r)
  exact ⟨fun p r d => by rw [qm_keep m c t h0]; exact hq p r d,
    fun p r => (congrFun (mx_step m c t h0 p) (ix3 0 r 0)).trans (key p r).1,
    fun p r => (congrFun (sm_step m c t h0 p) (ix3 0 r 0)).trans (key p r).2.1,
    fun p r d => (congrFun (ac_step m c t h0 p) (ix3 0 r d)).trans ((key p r).2.2 d)⟩

/-- The state at every point. -/
theorem inv (n : ℕ) (hn : n < cfg0.N) : Inv m c ⟨n, hn⟩ := by
  induction n with
  | zero => exact inv_start m c ⟨0, hn⟩ rfl
  | succ n ih =>
    by_cases h0 : (n + 1) % 16 = 0
    · exact inv_start m c ⟨n + 1, hn⟩ h0
    · exact inv_step m c ⟨n + 1, hn⟩ h0 (ih _)

end Cert.AttnIdeal.Fold
-- ==== Proof.AttnSoft.lean ====
/-
The attention's reference at an index: scores, and the softmax over all keys.
-/
module

public import proofs.«01_k».proof.Proof.Gen.AttnRefIdeal.Read
public import proofs.«01_k».proof.Proof.AttnFold

@[expose] public section

set_option maxRecDepth 16384

noncomputable section

open Idealize.ShloMosaic Idealize.ShloMosaic.TcCoe Idealize.SL.Sem

namespace Cert.AttnRefIdeal.Val

open Cert.AttnRefIdeal Cert.AttnRefIdeal.Read Cert.Softmax Cert.AttnIdeal.Pay
open Cert.AttnIdeal.Fold (mask scores vals)

variable (x0 x1 x2 : FVec Ideal S6x8x8192x128 .bf16) (x3 x4 x5 x6 : FVec Ideal S1x64 .f32) (x7 : FVec Ideal S1x128 .f32)
variable (s : Fin 6) (h : Fin 8) (p : Fin 2) (r : Fin 8192)

/-- The feature that feature `a` of map `p` is. -/
def feat (p : Fin 2) (a : Fin 64) : Fin 128 := ⟨p.val * 64 + a.val, by omega⟩

/-- A masked product over all 128 features is the product over the map's own 64. -/
theorem sum_mask (q k : Fin 128 → EReal) :
    ∑ d : Fin 128, mask p d (q d) * k d = ∑ a : Fin 64, q (feat p a) * k (feat p a) := by
  rw [show (∑ d : Fin 128, mask p d (q d) * k d) = ∑ d : Fin (64 + 64), mask p d (q d) * k d from rfl, Fin.sum_univ_add]
  have hl (a : Fin 64) : ((Fin.castAdd 64 a : Fin 128)).val < 64 := a.isLt
  have hr (a : Fin 64) : ¬((Fin.natAdd 64 a : Fin 128)).val < 64 := by
    show ¬64 + a.val < 64; omega
  fin_cases p
  · refine Eq.trans (congrArg₂ (· + ·) (Finset.sum_congr rfl fun a _ => ?_) (Finset.sum_eq_zero fun a _ => ?_)) (add_zero _)
    · show mask 0 _ _ * _ = _
      rw [mask, if_pos rfl, if_pos (hl a)]
      have e : (Fin.castAdd 64 a : Fin 128) = feat 0 a := Fin.ext (by show a.val = 0 * 64 + a.val; omega)
      exact congrArg (fun d : Fin 128 => q d * k d) e
    · show mask 0 _ _ * _ = _
      rw [mask, if_pos rfl, if_neg (hr a), zero_mul]
  · refine Eq.trans (congrArg₂ (· + ·) (Finset.sum_eq_zero fun a _ => ?_) (Finset.sum_congr rfl fun a _ => ?_)) (zero_add _)
    · show mask 1 _ _ * _ = _
      rw [mask, if_neg (by decide), if_pos (hl a), zero_mul]
    · show mask 1 _ _ * _ = _
      rw [mask, if_neg (by decide), if_neg (hr a)]
      have e : (Fin.natAdd 64 a : Fin 128) = feat 1 a := Fin.ext (by show 64 + a.val = 1 * 64 + a.val; omega)
      exact congrArg (fun d : Fin 128 => q d * k d) e

theorem ref5 (k : Fin 8192) : val_main_v5 (F := Ideal) x0 x1 (ix5 s h p r k) = scores x0 x1 p s h r k.val := by
  rw [scores, dif_pos k.isLt, sum_mask p (fun d => x0 (ix4 s h r d)) (fun d => x1 (ix4 s h k d))]
  pointwise [val_main_v0, val_main_v1, val_main_v2, val_main_v3, val_main_v5, feat]

/-- A fold of maxima from minus infinity is the supremum. -/
theorem fold_sup {n : ℕ} (f : Fin n → EReal) : Finset.univ.fold max (⊥ : EReal) f = Finset.univ.sup f := rfl

/-- The maximum over the last axis. -/
theorem max_read (v : FVec Ideal S6x8x2x8192x8192 .f32) (c : FVec Ideal S_ .f32)
    (hr : S6x8x2x8192x8192.ReducesTo [4] S6x8x2x8192) (hu : 0 < S_.numel) (j : S6x8x2x8192.Idx) :
    Host.reduce FloatOps.maximumf v c hr hu j
      = Finset.univ.fold max (c (Shape.Idx.first hu)) fun k : Fin 8192 => v (ix5 (j 0) (j 1) (j 2) (j 3) k) := by
  simp only [pointwise]

/-- The supremum of the first `n` scores, over `Fin n`. -/
theorem runMax_eq (S : ℕ → EReal) (n : ℕ) : runMax S n = Finset.univ.sup fun k : Fin n => S k.val := by
  have e := runMax_add S 0 n
  rw [runMax_zero, zero_add] at e
  rw [e, max_eq_right bot_le]
  simp only [zero_add]

theorem ref6 : val_main_v6 (F := Ideal) x0 x1 (ix4 s h p r)
    = Finset.univ.sup fun k : Fin 8192 => val_main_v5 (F := Ideal) x0 x1 (ix5 s h p r k) := by
  unfold val_main_v6
  generalize val_main_v5 (F := Ideal) x0 x1 = v
  rw [max_read, val_main_cst_apply, neg_inf, fold_sup]
  rfl

theorem ref8 : val_main_v8 (F := Ideal) x0 x1 (ix4 s h p r) = runMax (scores x0 x1 p s h r) 8192 := by
  rw [val_main_v8_apply, ref6, val_main_v7_apply, val_main_cst_0_apply, neg_inf, runMax_eq]
  refine (max_eq_right bot_le).trans ?_
  exact Finset.sup_congr rfl fun k _ => ref5 x0 x1 s h p r k

theorem ref12 (k : Fin 8192) : val_main_v12 (F := Ideal) x0 x1 (ix5 s h p r k)
    = Ideal.exp (scores x0 x1 p s h r k.val - runMax (scores x0 x1 p s h r) 8192) := by
  rw [← ref8, ← ref5]
  pointwise [val_main_v9, val_main_v10, val_main_v11, val_main_v12]

theorem ref13 : val_main_v13 (F := Ideal) x0 x1 (ix4 s h p r) = runSum (scores x0 x1 p s h r) (fun _ => 1) 8192 := by
  have e : val_main_v13 (F := Ideal) x0 x1 (ix4 s h p r)
      = ∑ k : Fin 8192, val_main_v12 (F := Ideal) x0 x1 (ix5 s h p r k) := by
    pointwise [val_main_cst_1, val_main_v13]
  rw [e]
  simp only [ref12]
  rw [runSum, ← Fin.sum_univ_eq_sum_range (fun k => Ideal.exp (scores x0 x1 p s h r k - runMax (scores x0 x1 p s h r) 8192) * 1)]
  simp only [mul_one]

theorem ref16 (k : Fin 8192) : val_main_v16 (F := Ideal) x0 x1 (ix5 s h p r k)
    = Ideal.div (Ideal.exp (scores x0 x1 p s h r k.val - runMax (scores x0 x1 p s h r) 8192))
        (runSum (scores x0 x1 p s h r) (fun _ => 1) 8192) := by
  rw [← ref13, ← ref12]
  pointwise [val_main_v14, val_main_v15, val_main_v16]

end Cert.AttnRefIdeal.Val

end
-- ==== Proof.AttnRef.lean ====
/-
The attention's reference at an index: the difference of the two
maps, its product with the values, and the normalization.
-/
module

public import proofs.«01_k».proof.Proof.Gen.AttnRefIdeal.Read
public import proofs.«01_k».proof.Proof.AttnSoft

@[expose] public section

set_option maxRecDepth 16384

noncomputable section

open Idealize.ShloMosaic Idealize.ShloMosaic.TcCoe Idealize.SL.Sem

namespace Cert.AttnRefIdeal.Val

open Cert.AttnRefIdeal Cert.AttnRefIdeal.Read Cert.Softmax Cert.AttnIdeal.Pay
open Cert.AttnIdeal.Fold (mask scores vals)

variable (x0 x1 x2 : FVec Ideal S6x8x8192x128 .bf16) (x3 x4 x5 x6 : FVec Ideal S1x64 .f32) (x7 : FVec Ideal S1x128 .f32)
variable (s : Fin 6) (h : Fin 8) (p : Fin 2) (r : Fin 8192)

/-- The factor of the second map, of the four vectors. -/
abbrev LAM : EReal := lam (fun a => x3 (ix2 0 a)) (fun a => x4 (ix2 0 a)) (fun a => x5 (ix2 0 a)) (fun a => x6 (ix2 0 a))

theorem ref24 (i : S_.Idx) : val_main_v24 (F := Ideal) x3 x4 x5 x6 i = LAM x3 x4 x5 x6 := by
  pointwise [val_main_v17, val_main_cst_2, val_main_v18, val_main_v19, val_main_v20, val_main_cst_3, val_main_v21,
    val_main_v22, val_main_v23, val_main_cst_4, val_main_v24, LAM, lam, lamInit]
  simp only [Fin.sum_univ_one]

theorem at0 (k : Fin 8192) : idx_main_v25 (idx_main_v26 (ix4 s h r k)) = ix5 s h 0 r k := by
  have h0 := s.isLt; have h1 := h.isLt; have h2 := r.isLt; have h3 := k.isLt
  refine funext fun a => Fin.ext ?_
  match a with
  | ⟨0, _⟩ => show (((s.val * 8 + h.val) * 8192 + r.val) * 8192 + k.val) / 536870912 = s.val; omega
  | ⟨1, _⟩ => show (((s.val * 8 + h.val) * 8192 + r.val) * 8192 + k.val) / 67108864 % 8 = h.val; omega
  | ⟨2, _⟩ => rfl
  | ⟨3, _⟩ => show (((s.val * 8 + h.val) * 8192 + r.val) * 8192 + k.val) / 8192 % 8192 = r.val; omega
  | ⟨4, _⟩ => show (((s.val * 8 + h.val) * 8192 + r.val) * 8192 + k.val) % 8192 = k.val; omega

theorem at1 (k : Fin 8192) : idx_main_v27 (idx_main_v28 (ix4 s h r k)) = ix5 s h 1 r k := by
  have h0 := s.isLt; have h1 := h.isLt; have h2 := r.isLt; have h3 := k.isLt
  refine funext fun a => Fin.ext ?_
  match a with
  | ⟨0, _⟩ => show (((s.val * 8 + h.val) * 8192 + r.val) * 8192 + k.val) / 536870912 = s.val; omega
  | ⟨1, _⟩ => show (((s.val * 8 + h.val) * 8192 + r.val) * 8192 + k.val) / 67108864 % 8 = h.val; omega
  | ⟨2, _⟩ => rfl
  | ⟨3, _⟩ => show (((s.val * 8 + h.val) * 8192 + r.val) * 8192 + k.val) / 8192 % 8192 = r.val; omega
  | ⟨4, _⟩ => show (((s.val * 8 + h.val) * 8192 + r.val) * 8192 + k.val) % 8192 = k.val; omega

theorem ref31 (k : Fin 8192) : val_main_v31 (F := Ideal) x0 x1 x3 x4 x5 x6 (ix4 s h r k)
    = val_main_v16 (F := Ideal) x0 x1 (ix5 s h 0 r k) - LAM x3 x4 x5 x6 * val_main_v16 (F := Ideal) x0 x1 (ix5 s h 1 r k) := by
  rw [val_main_v31_apply, val_main_v30_apply, val_main_v26_apply, val_main_v25_apply, val_main_v28_apply, val_main_v27_apply,
    val_main_v29_apply, ref24, at0, at1]
  rfl

theorem ref32 (e : Fin 128) : val_main_v32 (F := Ideal) x0 x1 x2 x3 x4 x5 x6 (ix4 s h e r)
    = ∑ k : Fin 8192, x2 (ix4 s h k e) * val_main_v31 (F := Ideal) x0 x1 x3 x4 x5 x6 (ix4 s h r k) := by
  pointwise [val_main_v4, val_main_v32]

/-- Where a head's feature sits in the result's last axis. -/
def col (h : Fin 8) (e : Fin 128) : Fin 1024 := ⟨h.val * 128 + e.val, by omega⟩

theorem ref51 (e : Fin 128) : val_main_v51 (F := Ideal) x0 x1 x2 x3 x4 x5 x6 x7 (ix3 s r (col h e))
    = Cert.AttnIdeal.Pay.norm (fun e => val_main_v32 (F := Ideal) x0 x1 x2 x3 x4 x5 x6 (ix4 s h e r)) (x7 (ix2 0 e)) e := by
  unfold col Cert.AttnIdeal.Pay.norm
  pointwise [val_main_v33, val_main_v34, val_main_cst_5, val_main_v35, val_main_v36, val_main_cst_6, val_main_v37,
    val_main_v38, val_main_cst_7, val_main_v39, val_main_v40, val_main_v41, val_main_v42, val_main_v43, val_main_v44,
    val_main_v45, val_main_v46, val_main_v47, val_main_cst_8, val_main_v48, val_main_v49, val_main_v50, val_main_v51]

end Cert.AttnRefIdeal.Val

end
-- ==== Proof.AttnCore.lean ====
/-
The attention's two forms: normalizing the two softmax averages after their difference, and averaging
with the difference of the two softmax maps. On real values they agree.
-/
module

public import proofs.«01_k».proof.Proof.AttnRef

@[expose] public section

set_option maxRecDepth 16384

noncomputable section

open Idealize.ShloMosaic Idealize.ShloMosaic.TcCoe Idealize.SL.Sem

namespace Cert.AttnRefIdeal.Val

open Cert.AttnRefIdeal Cert.AttnRefIdeal.Read Cert.Softmax Cert.AttnIdeal.Pay
open Cert.AttnIdeal.Fold (mask scores vals)

/-- The divisor of the mean square, and the small number under the root. -/
theorem c128 : (Ideal.ofBits .f32 0x43000000#32 : EReal) = ((128 : ℝ) : EReal) := by
  simp [Ideal.ofBits, Ideal.ieee]
  rw [← EReal.coe_mul]
  norm_num

theorem ceps : ∃ r : ℝ, (Ideal.ofBits .f32 0x358637BD#32 : EReal) = r := by
  simp [Ideal.ofBits, Ideal.ieee]
  exact ⟨_, (EReal.coe_mul _ _).symm⟩

theorem clam : ∃ r : ℝ, lamInit = r := by
  unfold lamInit
  simp [Ideal.ofBits, Ideal.ieee]
  exact ⟨_, (EReal.coe_mul _ _).symm⟩

/-- A product of two real vectors is real. -/
theorem dot_real (f g : Fin 64 → EReal) (hf : ∀ a, ∃ r : ℝ, f a = r) (hg : ∀ a, ∃ r : ℝ, g a = r) :
    ∃ r : ℝ, ∑ a, f a * g a = r := by
  choose f' hf using hf
  choose g' hg using hg
  refine ⟨∑ a, f' a * g' a, ?_⟩
  simp only [hf, hg]
  push_cast
  rfl

/-- The second map's factor is real where the four vectors are. -/
theorem lam_real (q1 k1 q2 k2 : Fin 64 → EReal) (h1 : ∀ a, ∃ r : ℝ, q1 a = r) (h2 : ∀ a, ∃ r : ℝ, k1 a = r)
    (h3 : ∀ a, ∃ r : ℝ, q2 a = r) (h4 : ∀ a, ∃ r : ℝ, k2 a = r) : ∃ r : ℝ, lam q1 k1 q2 k2 = r := by
  obtain ⟨x, hx⟩ := dot_real q1 k1 h1 h2
  obtain ⟨y, hy⟩ := dot_real q2 k2 h3 h4
  obtain ⟨z, hz⟩ := clam
  refine ⟨Real.exp x - Real.exp y + z, ?_⟩
  rw [lam, hx, hy, hz, Ideal.exp_coe, Ideal.exp_coe]
  push_cast
  rfl

/-- A row of infinities and zeros has the norm zero. -/
theorem norm_junk (o : Fin 128 → EReal) (h : ∀ e, Junk (o e)) (g : EReal) (d : Fin 128) :
    Cert.AttnIdeal.Pay.norm o g d = 0 := by
  obtain ⟨e, he⟩ := ceps
  rw [Cert.AttnIdeal.Pay.norm, c128, he, Junk.normalized o h 128 e (by norm_num) d, zero_mul, zero_mul]

variable (x0 x1 x2 : FVec Ideal S6x8x8192x128 .bf16) (x3 x4 x5 x6 : FVec Ideal S1x64 .f32) (x7 : FVec Ideal S1x128 .f32)
variable (s : Fin 6) (h : Fin 8) (r : Fin 8192)

/-- The reference's row before its normalization, as a sum over the key numbers. -/
theorem row_sum (e : Fin 128) : val_main_v32 (F := Ideal) x0 x1 x2 x3 x4 x5 x6 (ix4 s h e r)
    = ∑ k ∈ Finset.range 8192, vals x2 s h e k *
        (Ideal.div (Ideal.exp (scores x0 x1 0 s h r k - runMax (scores x0 x1 0 s h r) 8192)) (runSum (scores x0 x1 0 s h r) (fun _ => 1) 8192)
          - LAM x3 x4 x5 x6 * Ideal.div (Ideal.exp (scores x0 x1 1 s h r k - runMax (scores x0 x1 1 s h r) 8192))
            (runSum (scores x0 x1 1 s h r) (fun _ => 1) 8192)) := by
  rw [ref32, ← Fin.sum_univ_eq_sum_range (fun k => vals x2 s h e k *
        (Ideal.div (Ideal.exp (scores x0 x1 0 s h r k - runMax (scores x0 x1 0 s h r) 8192)) (runSum (scores x0 x1 0 s h r) (fun _ => 1) 8192)
          - LAM x3 x4 x5 x6 * Ideal.div (Ideal.exp (scores x0 x1 1 s h r k - runMax (scores x0 x1 1 s h r) 8192))
            (runSum (scores x0 x1 1 s h r) (fun _ => 1) 8192))) 8192]
  refine Finset.sum_congr rfl fun k _ => ?_
  rw [ref31, ref16, ref16, vals, dif_pos k.isLt]

/-- On real values and vectors the two forms end with the same element. -/
theorem core (h2 : ∀ i, ∃ y : ℝ, x2 i = y) (h3 : ∀ i, ∃ y : ℝ, x3 i = y) (h4 : ∀ i, ∃ y : ℝ, x4 i = y)
    (h5 : ∀ i, ∃ y : ℝ, x5 i = y) (h6 : ∀ i, ∃ y : ℝ, x6 i = y) (d : Fin 128) :
    Cert.AttnIdeal.Pay.norm (fun e =>
        Ideal.div (runSum (scores x0 x1 0 s h r) (vals x2 s h e) 8192) (runSum (scores x0 x1 0 s h r) (fun _ => 1) 8192)
          - LAM x3 x4 x5 x6 * Ideal.div (runSum (scores x0 x1 1 s h r) (vals x2 s h e) 8192)
            (runSum (scores x0 x1 1 s h r) (fun _ => 1) 8192)) (x7 (ix2 0 d)) d
      = val_main_v51 (F := Ideal) x0 x1 x2 x3 x4 x5 x6 x7 (ix3 s r (col h d)) := by
  rw [ref51]
  simp only [row_sum]
  obtain ⟨l, hl⟩ : ∃ l : ℝ, LAM x3 x4 x5 x6 = l :=
    lam_real _ _ _ _ (fun a => h3 _) (fun a => h4 _) (fun a => h5 _) (fun a => h6 _)
  have hv : ∀ (k : ℕ) (e : Fin 128), ∃ y : ℝ, vals x2 s h e k = y := by
    intro k e
    unfold vals
    split
    · exact h2 _
    · exact ⟨0, rfl⟩
  choose v hv using hv
  have hv' : ∀ e, vals x2 s h e = fun k => ((v k e : ℝ) : EReal) := fun e => funext fun k => hv k e
  simp only [hl, hv']
  rcases diff_maps 8192 (scores x0 x1 0 s h r) (scores x0 x1 1 s h r) v l with hs | ⟨ha, hb⟩
  · exact congrArg (fun o => Cert.AttnIdeal.Pay.norm o (x7 (ix2 0 d)) d) (funext hs)
  · rw [norm_junk _ ha, norm_junk _ hb]

end Cert.AttnRefIdeal.Val

end
-- ==== Proof.AttnFinal.lean ====
/-
The attention's result array: every block that the last key block of a query block writes back is the
reference's block.
-/
module

public import proofs.«01_k».proof.Proof.AttnCore

@[expose] public section

set_option maxRecDepth 16384

noncomputable section

open Idealize.ShloMosaic Idealize.ShloMosaic.TcCoe Idealize.SL.Sem
open Idealize.ShloMosaic.Pipeline (Dat)

namespace Cert.AttnIdeal.Val

open Cert.AttnIdeal Cert.AttnIdeal.Gen Cert.Rows Cert.AttnIdeal.Step Cert.AttnIdeal.Fold Cert.Softmax Cert.AttnIdeal.Pay
open Cert.AttnRefIdeal.Val (col LAM core)

variable (m : (ℓ : Loc nD τ sig) → Buf (Elt Ideal) ℓ) (c : Dev nD) (t : Fin cfg0.N)

/-- The four vectors and the weights of the normalization. -/
abbrev L1 : FVec Ideal S1x64 .f32 := m ((c : Thread nD τ).loc main_arg3)
abbrev M1 : FVec Ideal S1x64 .f32 := m ((c : Thread nD τ).loc main_arg4)
abbrev L2 : FVec Ideal S1x64 .f32 := m ((c : Thread nD τ).loc main_arg5)
abbrev M2 : FVec Ideal S1x64 .f32 := m ((c : Thread nD τ).loc main_arg6)
abbrev G : FVec Ideal S1x128 .f32 := m ((c : Thread nD τ).loc main_arg7)

theorem blk0 (a : Fin 64) : iblk m c 0 t (ix2 0 a) = L1 m c (ix2 0 a) := by blk_point [iblk, V, idx t]
theorem blk1 (a : Fin 64) : iblk m c 1 t (ix2 0 a) = M1 m c (ix2 0 a) := by blk_point [iblk, V, idx t]
theorem blk2 (a : Fin 64) : iblk m c 2 t (ix2 0 a) = L2 m c (ix2 0 a) := by blk_point [iblk, V, idx t]
theorem blk3 (a : Fin 64) : iblk m c 3 t (ix2 0 a) = M2 m c (ix2 0 a) := by blk_point [iblk, V, idx t]
theorem blk4 (d : Fin 128) : iblk m c 4 t (ix2 0 d) = G m c (ix2 0 d) := by blk_point [iblk, V, idx t]

/-- What the last key block writes, of all 8192 keys. -/
theorem written (ht : t.val % 16 = 15) (r : Fin 512) (d : Fin 128) : (outsAt0 m c t.val t.isLt).1 (ix3 0 r d)
    = Cert.AttnIdeal.Pay.norm (fun e =>
        Ideal.div (runSum (SC m c t 0 r) (VL m c t e) 8192) (runSum (SC m c t 0 r) (fun _ => 1) 8192)
          - LAM (L1 m c) (M1 m c) (L2 m c) (M2 m c) * Ideal.div (runSum (SC m c t 1 r) (VL m c t e) 8192)
            (runSum (SC m c t 1 r) (fun _ => 1) 8192)) (G m c (ix2 0 d)) d := by
  have i := inv m c t.val t.isLt
  have en : t.val % 16 * 512 + 512 = 8192 := by omega
  have hs : ∀ (p : Fin 2), block (n := 1) (φ := .f32) p (sm m c t) (ix3 0 r 0) = runSum (SC m c t p r) (fun _ => 1) 8192 :=
    fun p => (i.sm p r).trans (by rw [show (⟨t.val, t.isLt⟩ : Fin cfg0.N).val % 16 * 512 + 512 = 8192 from en])
  have ha : ∀ (p : Fin 2) (e : Fin 128), block (n := 128) (φ := .f32) p (ac m c t) (ix3 0 r e) = runSum (SC m c t p r) (VL m c t e) 8192 :=
    fun p e => (i.ac p r e).trans (by rw [show (⟨t.val, t.isLt⟩ : Fin cfg0.N).val % 16 * 512 + 512 = 8192 from en])
  rw [out m c t ht, pay4_apply, blk4]
  refine congrArg (fun o => Cert.AttnIdeal.Pay.norm o (G m c (ix2 0 d)) d) (funext fun e => ?_)
  rw [pay5_apply, hs, hs, ha, ha]
  simp only [blk0, blk1, blk2, blk3]

/-- The output blocks that are written back cover the result. -/
theorem covers : win0_8.Covers := by
  refine ⟨by decide, fun β => ?_⟩
  have b0 : (β 0).val < 6 := (β 0).isLt
  have b1 : (β 1).val < 16 := (β 1).isLt
  have b2 : (β 2).val < 8 := (β 2).isLt
  have hN : (((β 0).val * 8 + (β 2).val) * 16 + (β 1).val) * 16 + 15 < cfg0.N := by
    rw [show cfg0.N = 12288 from N_0]; omega
  refine ⟨⟨_, hN⟩, (flush0_8 _).mpr (by show ((((β 0).val * 8 + (β 2).val) * 16 + (β 1).val) * 16 + 15) % 16 = 15; omega), fun a => ⟨?_, Or.inl rfl⟩⟩
  rw [(idx _).2.2.2.2.2.2.2.2]
  fin_cases a
  · show ((((β 0).val * 8 + (β 2).val) * 16 + (β 1).val) * 16 + 15) / 2048 = (β 0).val; omega
  · show ((((β 0).val * 8 + (β 2).val) * 16 + (β 1).val) * 16 + 15) / 16 % 16 = (β 1).val; omega
  · show ((((β 0).val * 8 + (β 2).val) * 16 + (β 1).val) * 16 + 15) / 256 % 8 = (β 2).val; omega

/-- The kernel's result array is the reference's result at the kernel's own arguments. -/
theorem final (h2 : ∀ i, ∃ y : ℝ, W m c i = y) (h3 : ∀ i, ∃ y : ℝ, L1 m c i = y) (h4 : ∀ i, ∃ y : ℝ, M1 m c i = y)
    (h5 : ∀ i, ∃ y : ℝ, L2 m c i = y) (h6 : ∀ i, ∃ y : ℝ, M2 m c i = y) : (dats m 0 c).arrAt 8 (cfgs 0).N
    = Cert.AttnRefIdeal.Read.val_main_v51 (F := Ideal) (Q m c) (K m c) (W m c) (L1 m c) (M1 m c) (L2 m c) (M2 m c) (G m c) := by
  refine (dats m 0 c).arrAt_eq_of_covers 8 _ covers fun t hf y => ?_
  have ht : t.val % 16 = 15 := (flush0_8 t).mp hf
  blk_simp
  rw [after0_8]
  obtain ⟨r, d, rfl⟩ : ∃ (r : Fin 512) (d : Fin 128), y = ix3 0 r d :=
    ⟨y 1, y 2, by funext a; fin_cases a; exacts [Subsingleton.elim (α := Fin 1) _ _, rfl, rfl]⟩
  have e : ((win0_8.blk t).view.emb (ix3 0 r d) : S6x8192x1024.Idx) = ix3 (Fold.sq t) (row t r) (col (hd t) d) := by
    unfold Fold.sq row hd col; blk_ext [idx t]
  rw [e, written m c t ht r d]
  exact core _ _ _ _ _ _ _ _ (Fold.sq t) (hd t) (row t r) h2 h3 h4 h5 h6 d

end Cert.AttnIdeal.Val

end
-- ==== Proof.AttnFinite.lean ====
/-
What the attention's precondition says: the values and the four vectors hold real numbers.
-/
module

public import proofs.«01_k».proof.Defs
public import proofs.«01_k».proof.Proof.Gen.Pre_finite_values
public import proofs.«01_k».proof.Proof.AttnFinal

@[expose] public section

noncomputable section

open Idealize.ShloMosaic Idealize.ShloMosaic.TcCoe Idealize.SL.Sem

namespace Cert.AttnIdeal.Finite

open Cert.AttnIdeal Cert.AttnIdeal.Fold Cert.AttnIdeal.Val

/-- An element whose absolute value is below infinity is a real number. -/
theorem real_of_lt (x : EReal) (h : Ideal.cmp .olt (max x (-x)) ⊤ = 1#1) : ∃ r : ℝ, x = r := by
  have hlt : max x (-x) < ⊤ := by
    by_contra hn
    have : Ideal.cmp .olt (max x (-x)) ⊤ = 0#1 := by simp [Ideal.cmp, hn]
    rw [this] at h
    exact absurd h (by decide)
  induction x using EReal.rec with
  | bot => simp at hlt
  | top => simp at hlt
  | coe r => exact ⟨r, rfl⟩

theorem top16 : (Ideal.ofBits .bf16 0x7F80#16 : EReal) = ⊤ := by simp [Ideal.ofBits, Ideal.ieee]
theorem top32 : (Ideal.ofBits .f32 0x7F800000#32 : EReal) = ⊤ := by simp [Ideal.ofBits, Ideal.ieee]

attribute [local instance] Cert.Pre_finite_values.Gen.facts

/-- The elements of the launch's values and of its four vectors are real numbers. -/
theorem finite (m : (ℓ : Loc nD τ sig) → Buf (Elt Ideal) ℓ) (h : Cert.Pre_AttnIdeal_finite_values m) (c : Dev nD) :
    (∀ i : S6x8x8192x128.Idx, ∃ r : ℝ, W m c i = r)
    ∧ (∀ i : S1x64.Idx, ∃ r : ℝ, L1 m c i = r)
    ∧ (∀ i : S1x64.Idx, ∃ r : ℝ, M1 m c i = r)
    ∧ (∀ i : S1x64.Idx, ∃ r : ℝ, L2 m c i = r)
    ∧ (∀ i : S1x64.Idx, ∃ r : ℝ, M2 m c i = r) := by
  obtain ⟨h2, h3, h4, h5, h6⟩ := h c
  refine ⟨fun i => real_of_lt _ ?_, fun i => real_of_lt _ ?_, fun i => real_of_lt _ ?_, fun i => real_of_lt _ ?_,
    fun i => real_of_lt _ ?_⟩
  · rw [← top16]; exact congrFun h2 i
  · rw [← top32]; exact congrFun h3 i
  · rw [← top32]; exact congrFun h4 i
  · rw [← top32]; exact congrFun h5 i
  · rw [← top32]; exact congrFun h6 i

end Cert.AttnIdeal.Finite

end
-- ==== Proof.AttnClaim.lean ====
/-
The claims about the attention: its reference runs, and on real values it computes what the kernel computes.
-/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.AttnFinal
public import proofs.«01_k».proof.Proof.AttnFinite

@[expose] public section

noncomputable section

open Idealize.ShloMosaic Idealize.ShloMosaic.TcCoe Idealize.SL.Sem

namespace Cert.Proof

attribute [local instance] Cert.Attn.Gen.facts Cert.AttnIdeal.Gen.facts Cert.AttnRefIdeal.Gen.facts
  Cert.Pre_finite_values.Gen.facts

/-- The reference runs, keeps its arguments and has no counter to leave. -/
theorem frame_AttnRefIdeal : Cert.quiescent_AttnRefIdeal := fun m g _ =>
  (θ_run _ _ _).mono (fun r h => ⟨fun c => (h c).2, sem_eq_zero_of_no_sems rfl _⟩) (Cert.AttnRefIdeal.Value.run (F := Ideal) m g)

/-- The same under the precondition. -/
theorem frame_AttnRefIdeal_finite : Cert.quiescent_AttnRefIdeal_pre_finite_values := fun m g _ => frame_AttnRefIdeal m g trivial

/-- Kernel and reference end with the same array, where the values and the four vectors are real. -/
theorem value_Attn : Cert.algebraic_AttnIdeal_AttnRefIdeal_pre_finite_values := by
  intro m g m' g' hpre hagree
  refine ⟨fun c => (Cert.AttnIdeal.Gen.dats m 0 c).arrAt 8 (Cert.AttnIdeal.cfgs 0).N, Cert.AttnIdeal.Value.run_blocks m g, ?_⟩
  refine (θ_run _ _ _).mono (fun r h c => ⟨(h c).1.trans ?_, (h c).2⟩) (Cert.AttnRefIdeal.Value.run (F := Ideal) m' g')
  obtain ⟨p2, p3, p4, p5, p6⟩ := Cert.AttnIdeal.Finite.finite m hpre c
  refine (Cert.AttnRefIdeal.Read.val_main_v51_eq m' c).trans (Eq.trans ?_ (Cert.AttnIdeal.Val.final m c p2 p3 p4 p5 p6).symm)
  obtain ⟨h0, h1, h2, h3, h4, h5, h6, h7⟩ := hagree c
  rw [h0, h1, h2, h3, h4, h5, h6, h7]

end Cert.Proof

end
-- ==== Proof.Ffn.lean ====
/-
The feed-forward layer: over the 11 hidden blocks of one row block the kernel keeps the normalized
rows and adds up the blocks' products with the last weight; the sum at the last of them is the
reference's contraction over all 5632 hidden features.
-/
module

public import Idealize.ShloMosaic.Lib.Pipeline.ReadBack
public import proofs.«01_k».proof.Proof.Gen.FfnIdeal.Value
public import proofs.«01_k».proof.Proof.Gen.FfnRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Val

open Cert.FfnIdeal Cert.FfnIdeal.Gen

/-- The block index of every window at every grid point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0]
    ∧ win0_6.index t = ![t.val / 11, 0] :=
  (by decide +kernel : ∀ t : Fin grid0.N, _)

/-- A row divided by the root of its mean square, times the scale. -/
def rms (x : FVec Ideal S512x2048 .f32) (g : FVec Ideal S1x2048 .f32) (r : Fin 512) (d : Fin 2048) : EReal :=
  x (ix2 r d) * Ideal.rsqrt (Ideal.div (∑ e : Fin 2048, x (ix2 r e) * x (ix2 r e)) (Ideal.ofBits .f32 0x45000000#32)
    + Ideal.ofBits .f32 0x358637BD#32) * g (ix2 0 d)

theorem pay1_apply (x : FVec Ideal S512x2048 .f32) (g : FVec Ideal S1x2048 .f32) (r : Fin 512) (d : Fin 2048) :
    k0_pay1 (F := Ideal) x g (ix2 r d) = rms x g r d := by
  pointwise [k0_pay1, rms]

theorem pay2_apply (y : S512x2048.Idx) : k0_pay2 (F := Ideal) y = (0 : EReal) := by
  pointwise [k0_pay2]

/-- One hidden feature: the gate through its logistic, times the other projection. -/
def hid (h : FVec Ideal S512x2048 .bf16) (wg wu : FVec Ideal S2048x512 .bf16) (r k : Fin 512) : EReal :=
  (∑ d : Fin 2048, h (ix2 r d) * wg (ix2 d k))
    * Ideal.logistic (∑ d : Fin 2048, h (ix2 r d) * wg (ix2 d k))
    * (∑ d : Fin 2048, h (ix2 r d) * wu (ix2 d k))

/-- What one hidden block adds to the running sum. -/
def part (h : FVec Ideal S512x2048 .bf16) (wg wu : FVec Ideal S2048x512 .bf16) (wd : FVec Ideal S512x2048 .bf16)
    (y : S512x2048.Idx) : EReal :=
  ∑ k : Fin 512, hid h wg wu (y 0) k * wd (ix2 k (y 1))

theorem pay3_apply (h : FVec Ideal S512x2048 .bf16) (wg wu : FVec Ideal S2048x512 .bf16) (acc : FVec Ideal S512x2048 .f32)
    (wd : FVec Ideal S512x2048 .bf16) (y : S512x2048.Idx) :
    k0_pay3 (F := Ideal) h wg wu acc wd y = acc y + part h wg wu wd y := by
  pointwise [k0_pay3, part, hid]

theorem pay4_apply (x acc : FVec Ideal S512x2048 .f32) (g : FVec Ideal S1x2048 .f32) (r : Fin 512) (d : Fin 2048) :
    k0_pay4 (F := Ideal) x acc g (ix2 r d) = x (ix2 r d) + rms acc g r d := by
  pointwise [k0_pay4, rms]

variable (m : (ℓ : Loc nD τ sig) → Buf (Elt Ideal) ℓ)

/-- The normalized rows of the block of point `t`. -/
def nrm (c : Dev nD) (t : Fin cfg0.N) : FVec Ideal S512x2048 .bf16 :=
  k0_pay1 (F := Ideal) (iblk m c 0 t) (iblk m c 1 t)

theorem nrm_pred (c : Dev nD) (t : Fin cfg0.N) (h : ¬t.val % 11 = 0) :
    nrm m c ⟨t.val - 1, Nat.lt_of_le_of_lt (Nat.sub_le _ _) t.isLt⟩ = nrm m c t := by
  unfold nrm
  congr 1 <;> funext y
  blk_ext [iblk, V, idx t, idx ⟨t.val - 1, Nat.lt_of_le_of_lt (Nat.sub_le _ _) t.isLt⟩]

/-- After the first point of a run the first scratch is left alone. -/
theorem keep (c : Dev nD) (t : Fin cfg0.N) (h : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h h1]; dsimp only [sout0_C_0]
  · rw [outsAt0_B m c t h h1]; dsimp only [sout0_B_0]

/-- The first point of a run writes the normalized rows. -/
theorem start (c : Dev nD) (t : Fin cfg0.N) (h : t.val % 11 = 0) : (outsAt0 m c t.val t.isLt).2.1 = nrm m c t := by
  rw [outsAt0_A m c t h (by omega)]
  frame_out; rfl

/-- The first scratch holds the normalized rows at every point of a run. -/
theorem scratch0 (c : Dev nD) (n : ℕ) (hn : n < cfg0.N) : (outsAt0 m c n hn).2.1 = nrm m c ⟨n, hn⟩ := by
  induction n with
  | zero => exact start m c ⟨0, hn⟩ rfl
  | succ n ih =>
    by_cases h0 : (n + 1) % 11 = 0
    · exact start m c ⟨n + 1, hn⟩ h0
    · have k := keep m c ⟨n + 1, hn⟩ h0
      have e := nrm_pred m c ⟨n + 1, hn⟩ h0
      simp only [Nat.add_sub_cancel] at k e
      rw [k, ← e]
      exact ih _

/-- The second scratch holds the sum of the parts of the run's points so far. -/
theorem scratch1 (c : Dev nD) (t : Fin cfg0.N) (ht : t.val % 11 = 10) (y : S512x2048.Idx) :
    (outsAt0 m c t.val t.isLt).2.2 y = (0 : EReal) + ∑ s : Fin 11,
      part (nrm m c ⟨11 * (t.val / 11) + s.val, Pipeline.run_point_lt_of_flush t ht s⟩)
        (iblk m c 2 ⟨11 * (t.val / 11) + s.val, Pipeline.run_point_lt_of_flush t ht s⟩)
        (iblk m c 3 ⟨11 * (t.val / 11) + s.val, Pipeline.run_point_lt_of_flush t ht s⟩)
        (iblk m c 4 ⟨11 * (t.val / 11) + s.val, Pipeline.run_point_lt_of_flush t ht s⟩) y := by
  refine Pipeline.eq_sum_fin_of_reset_step_apply_of_flush (M := EReal) (ι := S512x2048.Idx)
    (fun n h => (outsAt0 m c n h).2.2) 11 (fun _ => 0)
    (fun t y => part (nrm m c t) (iblk m c 2 t) (iblk m c 3 t) (iblk m c 4 t) y) (fun t h j => ?_) (fun t h j => ?_) t ht y
  · have e := scratch0 m c t.val t.isLt
    rw [outsAt0_A m c t h (by omega)]
    frame_out
    refine (pay3_apply _ _ _ _ _ _).trans ?_
    rw [pay2_apply]; rfl
  · have e := scratch0 m c (t.val - 1) (Nat.lt_of_le_of_lt (Nat.sub_le _ _) t.isLt)
    rw [nrm_pred m c t h] at e
    by_cases h1 : t.val % 11 = 10
    · rw [outsAt0_C m c t h h1]
      frame_out
      refine (pay3_apply _ _ _ _ _ _).trans ?_
      rw [e, read_unread_whole, read_unread_whole]
    · rw [outsAt0_B m c t h h1]
      frame_out
      refine (pay3_apply _ _ _ _ _ _).trans ?_
      rw [e, read_unread_whole, read_unread_whole]

/-- The last point of a run writes the input plus the normalized sum. -/
theorem out (c : Dev nD) (t : Fin cfg0.N) (h1 : t.val % 11 = 10) :
    (outsAt0 m c t.val t.isLt).1 = k0_pay4 (F := Ideal) (iblk m c 0 t) (outsAt0 m c t.val t.isLt).2.2 (iblk m c 5 t) := by
  rw [outsAt0_C m c t (by omega) h1]
  frame_out

theorem row_lt (t : Fin cfg0.N) (r : Fin 512) : t.val / 11 * 512 + r.val < 49152 := by
  have h : t.val < 1056 := lt_of_lt_of_eq t.isLt N_0
  have := r.isLt
  omega

/-- The row of the array that row `r` of the block of point `t` is. -/
def row (t : Fin cfg0.N) (r : Fin 512) : Fin 49152 := ⟨t.val / 11 * 512 + r.val, row_lt t r⟩

theorem blk0 (c : Dev nD) (t : Fin cfg0.N) (r : Fin 512) (d : Fin 2048) :
    iblk m c 0 t (ix2 r d) = m ((c : Thread nD τ).loc main_arg0) (ix2 (row t r) d) := by
  unfold row; blk_point [iblk, V, idx t]

theorem blk1 (c : Dev nD) (t : Fin cfg0.N) (d : Fin 2048) :
    iblk m c 1 t (ix2 0 d) = m ((c : Thread nD τ).loc main_arg1) (ix2 0 d) := by
  blk_point [iblk, V, idx t]

theorem blk5 (c : Dev nD) (t : Fin cfg0.N) (d : Fin 2048) :
    iblk m c 5 t (ix2 0 d) = m ((c : Thread nD τ).loc main_arg5) (ix2 0 d) := by
  blk_point [iblk, V, idx t]

/-- The point of hidden block `s` in the run of point `t`. -/
abbrev pt (t : Fin cfg0.N) (ht : t.val % 11 = 10) (s : Fin 11) : Fin cfg0.N :=
  ⟨11 * (t.val / 11) + s.val, Pipeline.run_point_lt_of_flush t ht s⟩

/-- The hidden feature that feature `k` of hidden block `s` is. -/
def feat (s : Fin 11) (k : Fin 512) : Fin 5632 := ⟨s.val * 512 + k.val, by omega⟩

theorem pt_idx (t : Fin cfg0.N) (ht : t.val % 11 = 10) (s : Fin 11) :
    (pt t ht s).val / 11 = t.val / 11 ∧ (pt t ht s).val % 11 = s.val := by
  have := s.isLt
  constructor
  · show (11 * (t.val / 11) + s.val) / 11 = _; omega
  · show (11 * (t.val / 11) + s.val) % 11 = _; omega

section
variable (x0 : FVec Ideal S49152x2048 .f32) (x1 : FVec Ideal S1x2048 .f32) (x2 x3 : FVec Ideal S2048x5632 .bf16)
  (x4 : FVec Ideal S5632x2048 .bf16) (x5 : FVec Ideal S1x2048 .f32)

/-- A row of the whole array divided by the root of its mean square, times the scale. -/
def rmsAll (x : FVec Ideal S49152x2048 .f32) (g : FVec Ideal S1x2048 .f32) (r : Fin 49152) (d : Fin 2048) : EReal :=
  x (ix2 r d) * Ideal.rsqrt (Ideal.div (∑ e : Fin 2048, x (ix2 r e) * x (ix2 r e)) (Ideal.ofBits .f32 0x45000000#32)
    + Ideal.ofBits .f32 0x358637BD#32) * g (ix2 0 d)

open Cert.FfnRefIdeal.Read

theorem ref13 (r : Fin 49152) (d : Fin 2048) : val_main_v13 (F := Ideal) x0 x1 (ix2 r d) = rmsAll x0 x1 r d := by
  pointwise [rmsAll, val_main_v0, val_main_v1, val_main_cst, val_main_v2, val_main_v3, val_main_cst_0, val_main_v4,
    val_main_v5, val_main_cst_1, val_main_v6, val_main_v7, val_main_v8, val_main_v9, val_main_v10, val_main_v11,
    val_main_v12, val_main_v13]

theorem ref25 (r : Fin 49152) (k : Fin 5632) : val_main_v25 (F := Ideal) x0 x1 x2 x3 (ix2 r k)
    = (∑ d : Fin 2048, val_main_v13 (F := Ideal) x0 x1 (ix2 r d) * x2 (ix2 d k))
      * Ideal.logistic (∑ d : Fin 2048, val_main_v13 (F := Ideal) x0 x1 (ix2 r d) * x2 (ix2 d k))
      * (∑ d : Fin 2048, val_main_v13 (F := Ideal) x0 x1 (ix2 r d) * x3 (ix2 d k)) := by
  pointwise [val_main_v14, val_main_v15, val_main_v16, val_main_v17, val_main_v18, val_main_v19, val_main_cst_2,
    val_main_v20, val_main_v21, val_main_cst_3, val_main_v22, val_main_v23, val_main_v24, val_main_v25]
  rfl

theorem ref27 (r : Fin 49152) (d : Fin 2048) : val_main_v27 (F := Ideal) x0 x1 x2 x3 x4 (ix2 r d)
    = ∑ k : Fin 5632, val_main_v25 (F := Ideal) x0 x1 x2 x3 (ix2 r k) * x4 (ix2 k d) := by
  pointwise [val_main_v26, val_main_v27]

theorem ref42 (r : Fin 49152) (d : Fin 2048) : val_main_v42 (F := Ideal) x0 x1 x2 x3 x4 x5 (ix2 r d)
    = x0 (ix2 r d) + rmsAll (val_main_v27 (F := Ideal) x0 x1 x2 x3 x4) x5 r d := by
  pointwise [rmsAll, val_main_v28, val_main_v29, val_main_cst_4, val_main_v30, val_main_v31, val_main_cst_5,
    val_main_v32, val_main_v33, val_main_cst_6, val_main_v34, val_main_v35, val_main_v36, val_main_v37, val_main_v38,
    val_main_v39, val_main_v40, val_main_v41, val_main_v42]

end

section
variable (c : Dev nD) (t : Fin cfg0.N)

/-- Argument arrays of the launch on device `c`. -/
abbrev A0 : FVec Ideal S49152x2048 .f32 := m ((c : Thread nD τ).loc main_arg0)
abbrev A1 : FVec Ideal S1x2048 .f32 := m ((c : Thread nD τ).loc main_arg1)
abbrev A2 : FVec Ideal S2048x5632 .bf16 := m ((c : Thread nD τ).loc main_arg2)
abbrev A3 : FVec Ideal S2048x5632 .bf16 := m ((c : Thread nD τ).loc main_arg3)
abbrev A4 : FVec Ideal S5632x2048 .bf16 := m ((c : Thread nD τ).loc main_arg4)
abbrev A5 : FVec Ideal S1x2048 .f32 := m ((c : Thread nD τ).loc main_arg5)

open Cert.FfnRefIdeal.Read

theorem nrm_apply (r : Fin 512) (d : Fin 2048) :
    nrm m c t (ix2 r d) = val_main_v13 (F := Ideal) (A0 m c) (A1 m c) (ix2 (row t r) d) := by
  rw [nrm, pay1_apply, ref13]
  simp only [rms, rmsAll, blk0, blk1]

theorem blk2 (ht : t.val % 11 = 10) (s : Fin 11) (d : Fin 2048) (k : Fin 512) :
    iblk m c 2 (pt t ht s) (ix2 d k) = A2 m c (ix2 d (feat s k)) := by
  have e := (pt_idx t ht s).2
  unfold feat
  blk_point [iblk, V, idx (pt t ht s)]

theorem blk3 (ht : t.val % 11 = 10) (s : Fin 11) (d : Fin 2048) (k : Fin 512) :
    iblk m c 3 (pt t ht s) (ix2 d k) = A3 m c (ix2 d (feat s k)) := by
  have e := (pt_idx t ht s).2
  unfold feat
  blk_point [iblk, V, idx (pt t ht s)]

theorem blk4 (ht : t.val % 11 = 10) (s : Fin 11) (k : Fin 512) (d : Fin 2048) :
    iblk m c 4 (pt t ht s) (ix2 k d) = A4 m c (ix2 (feat s k) d) := by
  have e := (pt_idx t ht s).2
  unfold feat
  blk_point [iblk, V, idx (pt t ht s)]

theorem row_pt (ht : t.val % 11 = 10) (s : Fin 11) (r : Fin 512) : row (pt t ht s) r = row t r := by
  unfold row
  apply Fin.ext
  show (pt t ht s).val / 11 * 512 + r.val = t.val / 11 * 512 + r.val
  rw [(pt_idx t ht s).1]

/-- A hidden feature of a block is the reference's hidden feature. -/
theorem hid_eq (ht : t.val % 11 = 10) (s : Fin 11) (r k : Fin 512) :
    hid (nrm m c (pt t ht s)) (iblk m c 2 (pt t ht s)) (iblk m c 3 (pt t ht s)) r k
      = val_main_v25 (F := Ideal) (A0 m c) (A1 m c) (A2 m c) (A3 m c) (ix2 (row t r) (feat s k)) := by
  rw [ref25, hid]
  simp only [nrm_apply, row_pt, blk2, blk3]

/-- The sum over the hidden blocks is the contraction over all hidden features. -/
theorem acc_eq (ht : t.val % 11 = 10) (r : Fin 512) (d : Fin 2048) :
    (outsAt0 m c t.val t.isLt).2.2 (ix2 r d)
      = val_main_v27 (F := Ideal) (A0 m c) (A1 m c) (A2 m c) (A3 m c) (A4 m c) (ix2 (row t r) d) := by
  rw [scratch1 m c t ht, ref27, zero_add]
  show ∑ s : Fin 11, part (nrm m c (pt t ht s)) (iblk m c 2 (pt t ht s)) (iblk m c 3 (pt t ht s)) (iblk m c 4 (pt t ht s)) (ix2 r d) = _
  refine Fin.sum_mul_add_congr (fun s k hl => ?_)
  show hid _ _ _ r k * iblk m c 4 (pt t ht s) (ix2 k d) = _
  rw [hid_eq, blk4]
  rfl

/-- The kernel's result array is the reference's result at the kernel's own arguments. -/
theorem final : (dats m 0 c).arrAt 6 (cfgs 0).N
    = val_main_v42 (F := Ideal) (A0 m c) (A1 m c) (A2 m c) (A3 m c) (A4 m c) (A5 m c) := by
  refine (dats m 0 c).arrAt_eq_of_covers 6 _ (by decide +kernel) fun t hf y => ?_
  have ht : t.val % 11 = 10 := (flush0_6 t).mp hf
  blk_simp
  rw [after0_6, out m c t ht]
  obtain ⟨r, d, rfl⟩ : ∃ (r : Fin 512) (d : Fin 2048), y = ix2 r d := ⟨y 0, y 1, by funext a; fin_cases a <;> rfl⟩
  have e : (((cfg0.win 6).blk t).view.emb (ix2 r d) : S49152x2048.Idx) = ix2 (row t r) d := by
    unfold row; blk_ext [idx t]
  have e' : ((win0_6.blk t).view.emb (ix2 r d) : S49152x2048.Idx) = ix2 (row t r) d := e
  rw [pay4_apply, e', ref42]
  simp only [rms, rmsAll, blk0, blk5, acc_eq m c t ht]

end

end Cert.FfnIdeal.Val
-- ==== Proof.FfnClaim.lean ====
/-
The claims about the feed-forward block: its reference runs, and computes what the kernel computes.
-/
module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Ffn

@[expose] public section

noncomputable section

open Idealize.ShloMosaic Idealize.ShloMosaic.TcCoe Idealize.SL.Sem

namespace Cert.Proof

attribute [local instance] Cert.Ffn.Gen.facts Cert.FfnIdeal.Gen.facts Cert.FfnRefIdeal.Gen.facts

/-- The reference runs, keeps its arguments and has no counter to leave. -/
theorem frame_FfnRefIdeal : Cert.quiescent_FfnRefIdeal := fun m g _ =>
  (θ_run _ _ _).mono (fun r h => ⟨fun c => (h c).2, sem_eq_zero_of_no_sems rfl _⟩) (Cert.FfnRefIdeal.Value.run (F := Ideal) m g)

/-- Kernel and reference end with the same array. -/
theorem value_Ffn : Cert.algebraic_FfnIdeal_FfnRefIdeal := by
  intro m g m' g' _ hagree
  refine ⟨fun c => (Cert.FfnIdeal.Gen.dats m 0 c).arrAt 6 (Cert.FfnIdeal.cfgs 0).N, Cert.FfnIdeal.Value.run_blocks m g, ?_⟩
  refine (θ_run _ _ _).mono (fun r h c => ⟨(h c).1.trans ?_, (h c).2⟩) (Cert.FfnRefIdeal.Value.run (F := Ideal) m' g')
  refine (Cert.FfnRefIdeal.Read.val_main_v42_eq m' c).trans (Eq.trans ?_ (Cert.FfnIdeal.Val.final m c).symm)
  obtain ⟨h0, h1, h2, h3, h4, h5⟩ := hagree c
  rw [h0, h1, h2, h3, h4, h5]

end Cert.Proof

end
-- ==== Proof.OutProj.lean ====
/-
The output projection: what one block of the kernel stores is the reference's row-wise formula at the
rows of that block, and so the kernel's result array is the reference's.
-/
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Val

/-- The reference's result as a function of its six arguments. -/
abbrev REF (x0 : FVec Ideal Cert.OutProjRefIdeal.S49152x1024 .f32) (x1 : FVec Ideal Cert.OutProjRefIdeal.S49152x1024 .bf16)
    (x2 : FVec Ideal Cert.OutProjRefIdeal.S1x1024 .f32) (x3 : FVec Ideal Cert.OutProjRefIdeal.S2048x2048 .bf16)
    (x4 : FVec Ideal Cert.OutProjRefIdeal.S1x2048 .f32) (x5 : FVec Ideal Cert.OutProjRefIdeal.S49152x2048 .f32) :
    FVec Ideal Cert.OutProjRefIdeal.S49152x2048 .f32 :=
  Cert.OutProjRefIdeal.Read.val_main_v32 (F := Ideal) x0 x1 x2 x3 x4 x5

section
open Cert.OutProjIdeal Cert.OutProjIdeal.Gen

/-- The block index of every window at every grid point. -/
theorem idx : ∀ t : Fin cfg0.N, win0_0.index t = ![t.val, 0] ∧ win0_1.index t = ![t.val, 0] ∧ win0_2.index t = ![0, 0]
    ∧ win0_3.index t = ![0, 0] ∧ win0_4.index t = ![1, 0] ∧ win0_5.index t = ![0, 0] ∧ win0_6.index t = ![t.val, 0]
    ∧ win0_7.index t = ![t.val, 0] :=
  (by decide +kernel : ∀ t : Fin grid0.N, _)

variable (m : (ℓ : Loc nD τ sig) → Buf (Elt Ideal) ℓ)

open Cert.OutProjRefIdeal.Read in
/-- What the body stores at an index of a block is the reference's value where that index sits in the array. -/
theorem point (c : Dev nD) (t : Fin cfg0.N) (y : S512x2048.Idx) :
    k0_pay1 (F := Ideal) (iblk m c 0 t) (iblk m c 2 t) (iblk m c 3 t) (iblk m c 1 t) (iblk m c 4 t) (iblk m c 6 t) (iblk m c 5 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 7).blk t).view.emb y) := by
  pointwise [k0_pay1, REF, val_main_v0, val_main_v1, val_main_cst, val_main_v2, val_main_v3, val_main_cst_0, val_main_v4,
    val_main_v5, val_main_cst_1, val_main_v6, val_main_v7, val_main_v8, val_main_v9, val_main_v10, val_main_v11, val_main_v12,
    val_main_v13, val_main_v14, val_main_v15, val_main_v16, val_main_v17, val_main_v18, val_main_v19, val_main_cst_2,
    val_main_v20, val_main_v21, val_main_cst_3, val_main_v22, val_main_v23, val_main_cst_4, val_main_v24, val_main_v25,
    val_main_v26, val_main_v27, val_main_v28, val_main_v29, val_main_v30, val_main_v31, val_main_v32]
  blk_point [iblk, V, idx t]

/-- The kernel's result array is the reference's result at the kernel's own arguments. -/
theorem final (c : Dev nD) : (dats m 0 c).arrAt 7 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  exact point m c t y

end

end Cert.OutProjIdeal.Val
-- ==== Proof.OutProjClaim.lean ====
/-
The claims about the output projection: its reference runs, and computes what the kernel computes.
-/
module

public import proofs.«01_k».proof.Defs
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProj

@[expose] public section

noncomputable section

open Idealize.ShloMosaic Idealize.ShloMosaic.TcCoe Idealize.SL.Sem

namespace Cert.Proof

attribute [local instance] Cert.OutProj.Gen.facts Cert.OutProjIdeal.Gen.facts Cert.OutProjRefIdeal.Gen.facts

/-- The reference runs, keeps its arguments and has no counter to leave. -/
theorem frame_OutProjRefIdeal : Cert.quiescent_OutProjRefIdeal := fun m g _ =>
  (θ_run _ _ _).mono (fun r h => ⟨fun c => (h c).2, sem_eq_zero_of_no_sems rfl _⟩) (Cert.OutProjRefIdeal.Value.run (F := Ideal) m g)

/-- Kernel and reference end with the same array. -/
theorem value_OutProj : Cert.algebraic_OutProjIdeal_OutProjRefIdeal := by
  intro m g m' g' _ hagree
  refine ⟨fun c => (Cert.OutProjIdeal.Gen.dats m 0 c).arrAt 7 (Cert.OutProjIdeal.cfgs 0).N, Cert.OutProjIdeal.Value.run_blocks m g, ?_⟩
  refine (θ_run _ _ _).mono (fun r h c => ⟨(h c).1.trans ?_, (h c).2⟩) (Cert.OutProjRefIdeal.Value.run (F := Ideal) m' g')
  refine (Cert.OutProjRefIdeal.Read.val_main_v32_eq _ _ _ _ _ _).trans (Eq.trans ?_ (Cert.OutProjIdeal.Val.final m c).symm)
  obtain ⟨h0, h1, h2, h3, h4, h5⟩ := hagree c
  rw [h0, h1, h2, h3, h4, h5]

end Cert.Proof

end
-- ==== Proof.InProjIdealRuns.lean ====
/- The cases of the kernel's body over the grid, and the windows' blocks. -/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InProjIdeal.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProjIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 6 = 0 :=
  (fun t => by
    have ht : t.val < 576 := Nat.lt_of_lt_of_eq t.isLt N_0
    have e0 : (grid0.coords t 0).val = t.val / 6 % 96 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

abbrev cond0_1 (i : grid0.Coords) : Prop := k0_cond2 i = 1#1

theorem hcond0_1 : ∀ t : Fin cfg0.N, cond0_1 (grid0.coords t) ↔ t.val % 6 ≤ 2 :=
  (by decide +kernel : ∀ t : Fin grid0.N, cond0_1 (grid0.coords t) ↔ t.val % 6 ≤ 2)

abbrev cond0_2 (i : grid0.Coords) : Prop := k0_cond3 i = 1#1

theorem hcond0_2 : ∀ t : Fin cfg0.N, cond0_2 (grid0.coords t) ↔ t.val % 6 = 3 :=
  (fun t => by
    have ht : t.val < 576 := Nat.lt_of_lt_of_eq t.isLt N_0
    have e0 : (grid0.coords t 0).val = t.val / 6 % 96 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ t.val % 6 = 3)

abbrev cond0_3 (i : grid0.Coords) : Prop := k0_cond4 i = 1#1

theorem hcond0_3 : ∀ t : Fin cfg0.N, cond0_3 (grid0.coords t) ↔ t.val % 6 = 4 :=
  (fun t => by
    have ht : t.val < 576 := Nat.lt_of_lt_of_eq t.isLt N_0
    have e0 : (grid0.coords t 0).val = t.val / 6 % 96 := Pipeline.Grid.coords_val t 0 (by decide) rfl
    have e1 : (grid0.coords t 1).val = t.val / 1 % 6 := Pipeline.Grid.coords_val t 1 (by decide) rfl
    simp only [cond0_3, k0_cond4, e0, e1]
    word_cmp
   : ∀ t : Fin grid0.N, cond0_3 (grid0.coords t) ↔ t.val % 6 = 4)

abbrev cond0_4 (i : grid0.Coords) : Prop := k0_cond5 i = 1#1

theorem hcond0_4 : ∀ t : Fin cfg0.N, cond0_4 (grid0.coords t) ↔ t.val % 6 = 5 :=
  (fun t => by
    have ht : t.val < 576 := Nat.lt_of_lt_of_eq t.isLt N_0
    have e0 : (grid0.coords t 0).val = t.val / 6 % 96 := Pipeline.Grid.coords_val t 0 (by decide) rfl
    have e1 : (grid0.coords t 1).val = t.val / 1 % 6 := Pipeline.Grid.coords_val t 1 (by decide) rfl
    simp only [cond0_4, k0_cond5, e0, e1]
    word_cmp
   : ∀ t : Fin grid0.N, cond0_4 (grid0.coords t) ↔ t.val % 6 = 5)

theorem liveAt0_0 : ∀ t : Fin cfg0.N, cfg0.idle 0 (grid0.coords t) = false := fun _ => rfl

theorem liveAt0_1 : ∀ t : Fin cfg0.N, cfg0.idle 1 (grid0.coords t) = false := fun _ => rfl

theorem liveAt0_2 : ∀ t : Fin cfg0.N, cfg0.idle 2 (grid0.coords t) = false := fun _ => rfl

theorem liveAt0_3 : ∀ t : Fin cfg0.N, cfg0.idle 3 (grid0.coords t) = false := fun _ => rfl

theorem liveAt0_4 : ∀ t : Fin cfg0.N, cfg0.idle 4 (grid0.coords t) = false := fun _ => rfl

theorem liveAt0_5 : ∀ t : Fin cfg0.N, cfg0.idle 5 (grid0.coords t) = false := fun _ => rfl

abbrev conds0_A (i : grid0.Coords) : Prop := cond0_0 i ∧ cond0_1 i ∧ ¬cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))

abbrev conds0_B (i : grid0.Coords) : Prop := ¬cond0_0 i ∧ cond0_1 i ∧ ¬cond0_2 i ∧ ¬cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))

abbrev conds0_C (i : grid0.Coords) : Prop := ¬cond0_0 i ∧ ¬cond0_1 i ∧ cond0_2 i ∧ ¬cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))

abbrev conds0_D (i : grid0.Coords) : Prop := ¬cond0_0 i ∧ ¬cond0_1 i ∧ ¬cond0_2 i ∧ cond0_3 i ∧ ¬cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))

abbrev conds0_E (i : grid0.Coords) : Prop := ¬cond0_0 i ∧ ¬cond0_1 i ∧ ¬cond0_2 i ∧ ¬cond0_3 i ∧ cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))

def freshTab0_6 : ℕ → Bool
  | 0 => true
  | n + 1 => (0x8e38e38e38e38e38e38e38e38e38e38e38e38e38e38e38e38e38e38e38e38e38e38e38e38e38e38e38e38e38e38e38e38e38e38e38e38e38e38e38e38e38e38e38e38e38e38e38e3 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)

theorem liveAt0_6_A : ∀ t : Fin cfg0.N, cond0_0 (grid0.coords t) → cond0_1 (grid0.coords t) → ¬cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_A (grid0.coords t) → cfg0.idle 6 (grid0.coords t) = false) t ⟨h0, h1, h2, h3, h4⟩

theorem liveAt0_6_B : ∀ t : Fin cfg0.N, ¬cond0_0 (grid0.coords t) → cond0_1 (grid0.coords t) → ¬cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_B (grid0.coords t) → cfg0.idle 6 (grid0.coords t) = false) t ⟨h0, h1, h2, h3, h4⟩

theorem idleAt0_6_C : ∀ t : Fin cfg0.N, ¬cond0_0 (grid0.coords t) → ¬cond0_1 (grid0.coords t) → cond0_2 (grid0.coords t) → ¬cond0_3 (grid0.coords t) → ¬cond0_4 (grid0.coords t) → cfg0.idle 6 (grid0.coords t) = true :=
  fun t h0 h1 h2 h3 h4 => (by decide +kernel : ∀ t : Fin cfg0.N, conds0_C (grid0.coords t) → cfg0.idle 6 (grid0.coords t) = true) t ⟨h0, h1, h2, h3, h4⟩

theorem noFlush0_6_C : ∀ t : Fin cfg0.N, ¬cond0_0 (grid0.coords t) → ¬cond0_1 (grid0.coords t) → cond0_2 (grid0.coords t) → ¬cond0_3 (grid0.coords t) → ¬cond0_4 (grid0.coords t) → (cfg0.win 6).flush t = false :=
  fun t h0 h1 h2 h3 h4 => (by decide +kernel : ∀ t : Fin cfg0.N, conds0_C (grid0.coords t) → (cfg0.win 6).flush t = false) t ⟨h0, h1, h2, h3, h4⟩

theorem idleAt0_6_D : ∀ t : Fin cfg0.N, ¬cond0_0 (grid0.coords t) → ¬cond0_1 (grid0.coords t) → ¬cond0_2 (grid0.coords t) → cond0_3 (grid0.coords t) → ¬cond0_4 (grid0.coords t) → cfg0.idle 6 (grid0.coords t) = true :=
  fun t h0 h1 h2 h3 h4 => (by decide +kernel : ∀ t : Fin cfg0.N, conds0_D (grid0.coords t) → cfg0.idle 6 (grid0.coords t) = true) t ⟨h0, h1, h2, h3, h4⟩

theorem noFlush0_6_D : ∀ t : Fin cfg0.N, ¬cond0_0 (grid0.coords t) → ¬cond0_1 (grid0.coords t) → ¬cond0_2 (grid0.coords t) → cond0_3 (grid0.coords t) → ¬cond0_4 (grid0.coords t) → (cfg0.win 6).flush t = false :=
  fun t h0 h1 h2 h3 h4 => (by decide +kernel : ∀ t : Fin cfg0.N, conds0_D (grid0.coords t) → (cfg0.win 6).flush t = false) t ⟨h0, h1, h2, h3, h4⟩

theorem idleAt0_6_E : ∀ t : Fin cfg0.N, ¬cond0_0 (grid0.coords t) → ¬cond0_1 (grid0.coords t) → ¬cond0_2 (grid0.coords t) → ¬cond0_3 (grid0.coords t) → cond0_4 (grid0.coords t) → cfg0.idle 6 (grid0.coords t) = true :=
  fun t h0 h1 h2 h3 h4 => (by decide +kernel : ∀ t : Fin cfg0.N, conds0_E (grid0.coords t) → cfg0.idle 6 (grid0.coords t) = true) t ⟨h0, h1, h2, h3, h4⟩

theorem doFlush0_6_E : ∀ t : Fin cfg0.N, ¬cond0_0 (grid0.coords t) → ¬cond0_1 (grid0.coords t) → ¬cond0_2 (grid0.coords t) → ¬cond0_3 (grid0.coords t) → cond0_4 (grid0.coords t) → (cfg0.win 6).flush t = true :=
  fun t h0 h1 h2 h3 h4 => (by decide +kernel : ∀ t : Fin cfg0.N, conds0_E (grid0.coords t) → (cfg0.win 6).flush t = true) t ⟨h0, h1, h2, h3, h4⟩

theorem notFresh0_6_E : ∀ t : Fin cfg0.N, ¬cond0_0 (grid0.coords t) → ¬cond0_1 (grid0.coords t) → ¬cond0_2 (grid0.coords t) → ¬cond0_3 (grid0.coords t) → cond0_4 (grid0.coords t) → cfg0.fresh 6 t.val = false :=
  fun t h0 h1 h2 h3 h4 => (by intro t; rw [fresh0_6_eq t]; revert t; decide +kernel : ∀ t : Fin cfg0.N, conds0_E (grid0.coords t) → cfg0.fresh 6 t.val = false) t ⟨h0, h1, h2, h3, h4⟩

def freshTab0_7 : ℕ → Bool
  | 0 => true
  | n + 1 => (0x9e79e79e79e79e79e79e79e79e79e79e79e79e79e79e79e79e79e79e79e79e79e79e79e79e79e79e79e79e79e79e79e79e79e79e79e79e79e79e79e79e79e79e79e79e79e79e79e7 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)

theorem idleAt0_7_A : ∀ t : Fin cfg0.N, cond0_0 (grid0.coords t) → cond0_1 (grid0.coords t) → ¬cond0_2 (grid0.coords t) → ¬cond0_3 (grid0.coords t) → ¬cond0_4 (grid0.coords t) → cfg0.idle 7 (grid0.coords t) = true :=
  fun t h0 h1 h2 h3 h4 => (by decide +kernel : ∀ t : Fin cfg0.N, conds0_A (grid0.coords t) → cfg0.idle 7 (grid0.coords t) = true) t ⟨h0, h1, h2, h3, h4⟩

theorem noFlush0_7_A : ∀ t : Fin cfg0.N, cond0_0 (grid0.coords t) → cond0_1 (grid0.coords t) → ¬cond0_2 (grid0.coords t) → ¬cond0_3 (grid0.coords t) → ¬cond0_4 (grid0.coords t) → (cfg0.win 7).flush t = false :=
  fun t h0 h1 h2 h3 h4 => (by decide +kernel : ∀ t : Fin cfg0.N, conds0_A (grid0.coords t) → (cfg0.win 7).flush t = false) t ⟨h0, h1, h2, h3, h4⟩

theorem idleAt0_7_B : ∀ t : Fin cfg0.N, ¬cond0_0 (grid0.coords t) → cond0_1 (grid0.coords t) → ¬cond0_2 (grid0.coords t) → ¬cond0_3 (grid0.coords t) → ¬cond0_4 (grid0.coords t) → cfg0.idle 7 (grid0.coords t) = true :=
  fun t h0 h1 h2 h3 h4 => (by decide +kernel : ∀ t : Fin cfg0.N, conds0_B (grid0.coords t) → cfg0.idle 7 (grid0.coords t) = true) t ⟨h0, h1, h2, h3, h4⟩

theorem noFlush0_7_B : ∀ t : Fin cfg0.N, ¬cond0_0 (grid0.coords t) → cond0_1 (grid0.coords t) → ¬cond0_2 (grid0.coords t) → ¬cond0_3 (grid0.coords t) → ¬cond0_4 (grid0.coords t) → (cfg0.win 7).flush t = false :=
  fun t h0 h1 h2 h3 h4 => (by decide +kernel : ∀ t : Fin cfg0.N, conds0_B (grid0.coords t) → (cfg0.win 7).flush t = false) t ⟨h0, h1, h2, h3, h4⟩

theorem liveAt0_7_C : ∀ t : Fin cfg0.N, ¬cond0_0 (grid0.coords t) → ¬cond0_1 (grid0.coords t) → cond0_2 (grid0.coords t) → ¬cond0_3 (grid0.coords t) → ¬cond0_4 (grid0.coords t) → cfg0.idle 7 (grid0.coords t) = false :=
  fun t h0 h1 h2 h3 h4 => (by decide +kernel : ∀ t : Fin cfg0.N, conds0_C (grid0.coords t) → cfg0.idle 7 (grid0.coords t) = false) t ⟨h0, h1, h2, h3, h4⟩

theorem idleAt0_7_D : ∀ t : Fin cfg0.N, ¬cond0_0 (grid0.coords t) → ¬cond0_1 (grid0.coords t) → ¬cond0_2 (grid0.coords t) → cond0_3 (grid0.coords t) → ¬cond0_4 (grid0.coords t) → cfg0.idle 7 (grid0.coords t) = true :=
  fun t h0 h1 h2 h3 h4 => (by decide +kernel : ∀ t : Fin cfg0.N, conds0_D (grid0.coords t) → cfg0.idle 7 (grid0.coords t) = true) t ⟨h0, h1, h2, h3, h4⟩

theorem noFlush0_7_D : ∀ t : Fin cfg0.N, ¬cond0_0 (grid0.coords t) → ¬cond0_1 (grid0.coords t) → ¬cond0_2 (grid0.coords t) → cond0_3 (grid0.coords t) → ¬cond0_4 (grid0.coords t) → (cfg0.win 7).flush t = false :=
  fun t h0 h1 h2 h3 h4 => (by decide +kernel : ∀ t : Fin cfg0.N, conds0_D (grid0.coords t) → (cfg0.win 7).flush t = false) t ⟨h0, h1, h2, h3, h4⟩

theorem idleAt0_7_E : ∀ t : Fin cfg0.N, ¬cond0_0 (grid0.coords t) → ¬cond0_1 (grid0.coords t) → ¬cond0_2 (grid0.coords t) → ¬cond0_3 (grid0.coords t) → cond0_4 (grid0.coords t) → cfg0.idle 7 (grid0.coords t) = true :=
  fun t h0 h1 h2 h3 h4 => (by decide +kernel : ∀ t : Fin cfg0.N, conds0_E (grid0.coords t) → cfg0.idle 7 (grid0.coords t) = true) t ⟨h0, h1, h2, h3, h4⟩

theorem doFlush0_7_E : ∀ t : Fin cfg0.N, ¬cond0_0 (grid0.coords t) → ¬cond0_1 (grid0.coords t) → ¬cond0_2 (grid0.coords t) → ¬cond0_3 (grid0.coords t) → cond0_4 (grid0.coords t) → (cfg0.win 7).flush t = true :=
  fun t h0 h1 h2 h3 h4 => (by decide +kernel : ∀ t : Fin cfg0.N, conds0_E (grid0.coords t) → (cfg0.win 7).flush t = true) t ⟨h0, h1, h2, h3, h4⟩

theorem notFresh0_7_E : ∀ t : Fin cfg0.N, ¬cond0_0 (grid0.coords t) → ¬cond0_1 (grid0.coords t) → ¬cond0_2 (grid0.coords t) → ¬cond0_3 (grid0.coords t) → cond0_4 (grid0.coords t) → cfg0.fresh 7 t.val = false :=
  fun t h0 h1 h2 h3 h4 => (by intro t; rw [fresh0_7_eq t]; revert t; decide +kernel : ∀ t : Fin cfg0.N, conds0_E (grid0.coords t) → cfg0.fresh 7 t.val = false) t ⟨h0, h1, h2, h3, h4⟩

def freshTab0_8 : ℕ → Bool
  | 0 => true
  | n + 1 => (0xbefbefbefbefbefbefbefbefbefbefbefbefbefbefbefbefbefbefbefbefbefbefbefbefbefbefbefbefbefbefbefbefbefbefbefbefbefbefbefbefbefbefbefbefbefbefbefbef : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)

theorem idleAt0_8_A : ∀ t : Fin cfg0.N, cond0_0 (grid0.coords t) → cond0_1 (grid0.coords t) → ¬cond0_2 (grid0.coords t) → ¬cond0_3 (grid0.coords t) → ¬cond0_4 (grid0.coords t) → cfg0.idle 8 (grid0.coords t) = true :=
  fun t h0 h1 h2 h3 h4 => (by decide +kernel : ∀ t : Fin cfg0.N, conds0_A (grid0.coords t) → cfg0.idle 8 (grid0.coords t) = true) t ⟨h0, h1, h2, h3, h4⟩

theorem noFlush0_8_A : ∀ t : Fin cfg0.N, cond0_0 (grid0.coords t) → cond0_1 (grid0.coords t) → ¬cond0_2 (grid0.coords t) → ¬cond0_3 (grid0.coords t) → ¬cond0_4 (grid0.coords t) → (cfg0.win 8).flush t = false :=
  fun t h0 h1 h2 h3 h4 => (by decide +kernel : ∀ t : Fin cfg0.N, conds0_A (grid0.coords t) → (cfg0.win 8).flush t = false) t ⟨h0, h1, h2, h3, h4⟩

theorem idleAt0_8_B : ∀ t : Fin cfg0.N, ¬cond0_0 (grid0.coords t) → cond0_1 (grid0.coords t) → ¬cond0_2 (grid0.coords t) → ¬cond0_3 (grid0.coords t) → ¬cond0_4 (grid0.coords t) → cfg0.idle 8 (grid0.coords t) = true :=
  fun t h0 h1 h2 h3 h4 => (by decide +kernel : ∀ t : Fin cfg0.N, conds0_B (grid0.coords t) → cfg0.idle 8 (grid0.coords t) = true) t ⟨h0, h1, h2, h3, h4⟩

theorem noFlush0_8_B : ∀ t : Fin cfg0.N, ¬cond0_0 (grid0.coords t) → cond0_1 (grid0.coords t) → ¬cond0_2 (grid0.coords t) → ¬cond0_3 (grid0.coords t) → ¬cond0_4 (grid0.coords t) → (cfg0.win 8).flush t = false :=
  fun t h0 h1 h2 h3 h4 => (by decide +kernel : ∀ t : Fin cfg0.N, conds0_B (grid0.coords t) → (cfg0.win 8).flush t = false) t ⟨h0, h1, h2, h3, h4⟩

theorem idleAt0_8_C : ∀ t : Fin cfg0.N, ¬cond0_0 (grid0.coords t) → ¬cond0_1 (grid0.coords t) → cond0_2 (grid0.coords t) → ¬cond0_3 (grid0.coords t) → ¬cond0_4 (grid0.coords t) → cfg0.idle 8 (grid0.coords t) = true :=
  fun t h0 h1 h2 h3 h4 => (by decide +kernel : ∀ t : Fin cfg0.N, conds0_C (grid0.coords t) → cfg0.idle 8 (grid0.coords t) = true) t ⟨h0, h1, h2, h3, h4⟩

theorem noFlush0_8_C : ∀ t : Fin cfg0.N, ¬cond0_0 (grid0.coords t) → ¬cond0_1 (grid0.coords t) → cond0_2 (grid0.coords t) → ¬cond0_3 (grid0.coords t) → ¬cond0_4 (grid0.coords t) → (cfg0.win 8).flush t = false :=
  fun t h0 h1 h2 h3 h4 => (by decide +kernel : ∀ t : Fin cfg0.N, conds0_C (grid0.coords t) → (cfg0.win 8).flush t = false) t ⟨h0, h1, h2, h3, h4⟩

theorem liveAt0_8_D : ∀ t : Fin cfg0.N, ¬cond0_0 (grid0.coords t) → ¬cond0_1 (grid0.coords t) → ¬cond0_2 (grid0.coords t) → cond0_3 (grid0.coords t) → ¬cond0_4 (grid0.coords t) → cfg0.idle 8 (grid0.coords t) = false :=
  fun t h0 h1 h2 h3 h4 => (by decide +kernel : ∀ t : Fin cfg0.N, conds0_D (grid0.coords t) → cfg0.idle 8 (grid0.coords t) = false) t ⟨h0, h1, h2, h3, h4⟩

theorem idleAt0_8_E : ∀ t : Fin cfg0.N, ¬cond0_0 (grid0.coords t) → ¬cond0_1 (grid0.coords t) → ¬cond0_2 (grid0.coords t) → ¬cond0_3 (grid0.coords t) → cond0_4 (grid0.coords t) → cfg0.idle 8 (grid0.coords t) = true :=
  fun t h0 h1 h2 h3 h4 => (by decide +kernel : ∀ t : Fin cfg0.N, conds0_E (grid0.coords t) → cfg0.idle 8 (grid0.coords t) = true) t ⟨h0, h1, h2, h3, h4⟩

theorem doFlush0_8_E : ∀ t : Fin cfg0.N, ¬cond0_0 (grid0.coords t) → ¬cond0_1 (grid0.coords t) → ¬cond0_2 (grid0.coords t) → ¬cond0_3 (grid0.coords t) → cond0_4 (grid0.coords t) → (cfg0.win 8).flush t = true :=
  fun t h0 h1 h2 h3 h4 => (by decide +kernel : ∀ t : Fin cfg0.N, conds0_E (grid0.coords t) → (cfg0.win 8).flush t = true) t ⟨h0, h1, h2, h3, h4⟩

theorem notFresh0_8_E : ∀ t : Fin cfg0.N, ¬cond0_0 (grid0.coords t) → ¬cond0_1 (grid0.coords t) → ¬cond0_2 (grid0.coords t) → ¬cond0_3 (grid0.coords t) → cond0_4 (grid0.coords t) → cfg0.fresh 8 t.val = false :=
  fun t h0 h1 h2 h3 h4 => (by intro t; rw [fresh0_8_eq t]; revert t; decide +kernel : ∀ t : Fin cfg0.N, conds0_E (grid0.coords t) → cfg0.fresh 8 t.val = false) t ⟨h0, h1, h2, h3, h4⟩

theorem idleAt0_9_A : ∀ t : Fin cfg0.N, cond0_0 (grid0.coords t) → cond0_1 (grid0.coords t) → ¬cond0_2 (grid0.coords t) → ¬cond0_3 (grid0.coords t) → ¬cond0_4 (grid0.coords t) → cfg0.idle 9 (grid0.coords t) = true :=
  fun t h0 h1 h2 h3 h4 => (by decide +kernel : ∀ t : Fin cfg0.N, conds0_A (grid0.coords t) → cfg0.idle 9 (grid0.coords t) = true) t ⟨h0, h1, h2, h3, h4⟩

theorem noFlush0_9_A : ∀ t : Fin cfg0.N, cond0_0 (grid0.coords t) → cond0_1 (grid0.coords t) → ¬cond0_2 (grid0.coords t) → ¬cond0_3 (grid0.coords t) → ¬cond0_4 (grid0.coords t) → (cfg0.win 9).flush t = false :=
  fun t h0 h1 h2 h3 h4 => (by decide +kernel : ∀ t : Fin cfg0.N, conds0_A (grid0.coords t) → (cfg0.win 9).flush t = false) t ⟨h0, h1, h2, h3, h4⟩

theorem idleAt0_9_B : ∀ t : Fin cfg0.N, ¬cond0_0 (grid0.coords t) → cond0_1 (grid0.coords t) → ¬cond0_2 (grid0.coords t) → ¬cond0_3 (grid0.coords t) → ¬cond0_4 (grid0.coords t) → cfg0.idle 9 (grid0.coords t) = true :=
  fun t h0 h1 h2 h3 h4 => (by decide +kernel : ∀ t : Fin cfg0.N, conds0_B (grid0.coords t) → cfg0.idle 9 (grid0.coords t) = true) t ⟨h0, h1, h2, h3, h4⟩

theorem noFlush0_9_B : ∀ t : Fin cfg0.N, ¬cond0_0 (grid0.coords t) → cond0_1 (grid0.coords t) → ¬cond0_2 (grid0.coords t) → ¬cond0_3 (grid0.coords t) → ¬cond0_4 (grid0.coords t) → (cfg0.win 9).flush t = false :=
  fun t h0 h1 h2 h3 h4 => (by decide +kernel : ∀ t : Fin cfg0.N, conds0_B (grid0.coords t) → (cfg0.win 9).flush t = false) t ⟨h0, h1, h2, h3, h4⟩

theorem idleAt0_9_C : ∀ t : Fin cfg0.N, ¬cond0_0 (grid0.coords t) → ¬cond0_1 (grid0.coords t) → cond0_2 (grid0.coords t) → ¬cond0_3 (grid0.coords t) → ¬cond0_4 (grid0.coords t) → cfg0.idle 9 (grid0.coords t) = true :=
  fun t h0 h1 h2 h3 h4 => (by decide +kernel : ∀ t : Fin cfg0.N, conds0_C (grid0.coords t) → cfg0.idle 9 (grid0.coords t) = true) t ⟨h0, h1, h2, h3, h4⟩

theorem noFlush0_9_C : ∀ t : Fin cfg0.N, ¬cond0_0 (grid0.coords t) → ¬cond0_1 (grid0.coords t) → cond0_2 (grid0.coords t) → ¬cond0_3 (grid0.coords t) → ¬cond0_4 (grid0.coords t) → (cfg0.win 9).flush t = false :=
  fun t h0 h1 h2 h3 h4 => (by decide +kernel : ∀ t : Fin cfg0.N, conds0_C (grid0.coords t) → (cfg0.win 9).flush t = false) t ⟨h0, h1, h2, h3, h4⟩

theorem idleAt0_9_D : ∀ t : Fin cfg0.N, ¬cond0_0 (grid0.coords t) → ¬cond0_1 (grid0.coords t) → ¬cond0_2 (grid0.coords t) → cond0_3 (grid0.coords t) → ¬cond0_4 (grid0.coords t) → cfg0.idle 9 (grid0.coords t) = true :=
  fun t h0 h1 h2 h3 h4 => (by decide +kernel : ∀ t : Fin cfg0.N, conds0_D (grid0.coords t) → cfg0.idle 9 (grid0.coords t) = true) t ⟨h0, h1, h2, h3, h4⟩

theorem noFlush0_9_D : ∀ t : Fin cfg0.N, ¬cond0_0 (grid0.coords t) → ¬cond0_1 (grid0.coords t) → ¬cond0_2 (grid0.coords t) → cond0_3 (grid0.coords t) → ¬cond0_4 (grid0.coords t) → (cfg0.win 9).flush t = false :=
  fun t h0 h1 h2 h3 h4 => (by decide +kernel : ∀ t : Fin cfg0.N, conds0_D (grid0.coords t) → (cfg0.win 9).flush t = false) t ⟨h0, h1, h2, h3, h4⟩

theorem liveAt0_9_E : ∀ t : Fin cfg0.N, ¬cond0_0 (grid0.coords t) → ¬cond0_1 (grid0.coords t) → ¬cond0_2 (grid0.coords t) → ¬cond0_3 (grid0.coords t) → cond0_4 (grid0.coords t) → cfg0.idle 9 (grid0.coords t) = false :=
  fun t h0 h1 h2 h3 h4 => (by decide +kernel : ∀ t : Fin cfg0.N, conds0_E (grid0.coords t) → cfg0.idle 9 (grid0.coords t) = false) t ⟨h0, h1, h2, h3, h4⟩

abbrev VO0_6 : View sig .tc .vmem S512x1024 .f32 := (Memref.whole cc0_stg6_0 : Memref sig .tc .vmem S512x1024 .f32).view

abbrev VO0_7 : View sig .tc .vmem S1x8x512x128 .bf16 := (Memref.whole cc0_stg7_0 : Memref sig .tc .vmem S1x8x512x128 .bf16).view

abbrev VO0_8 : View sig .tc .vmem S1x8x512x128 .bf16 := (Memref.whole cc0_stg8_0 : Memref sig .tc .vmem S1x8x512x128 .bf16).view

abbrev VO0_9 : View sig .tc .vmem S1x8x512x128 .bf16 := (Memref.whole cc0_stg9_0 : Memref sig .tc .vmem S1x8x512x128 .bf16).view

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x512x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x512x128 .bf16 := win0_9.stage (cfg0.slots t 9)
abbrev hs0_9 (t : Fin cfg0.N) : (ms0_9 t).IsWhole := hstage0_9 ((cfg0.slots t 9).cast nbuf0_9)

abbrev scM0_0 : Memref sig .tc .vmem S512x2048 .bf16 := Memref.whole cc0_scratch0

abbrev VS0_0 : View sig .tc .vmem S512x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.InProjIdeal.Kept

end
-- ==== Proof.InProjIdealRunA.lean ====
/- The body's run in case A. -/
module

public import proofs.«01_k».proof.Proof.InProjIdealRuns

@[expose] public section

set_option maxRecDepth 16384

noncomputable section

namespace Cert.InProjIdeal.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProjIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) :
    Σ' (L6 : List (View.Piece (Elt F) S512x1024 .f32)), Σ' (L7 : List (View.Piece (Elt F) S1x8x512x128 .bf16)), Σ' (L8 : List (View.Piece (Elt F) S1x8x512x128 .bf16)), Σ' (L9 : List (View.Piece (Elt F) S1x8x512x128 .bf16)), { LS0 : List (View.Piece (Elt F) S512x2048 .bf16) //
      ∀ (xi7 : Vec F S1x8x512x128 .bf16) (xi8 : Vec F S1x8x512x128 .bf16) (xi9 : Vec F S1x8x512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K } := by
  refine ⟨?_, [], [], [], ?_, fun xi7 xi8 xi9 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.InProjIdeal.Kept

end
-- ==== Proof.InProjIdealRunB.lean ====
/- The body's run in case B. -/
module

public import proofs.«01_k».proof.Proof.InProjIdealRunA

@[expose] public section

set_option maxRecDepth 16384

noncomputable section

namespace Cert.InProjIdeal.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProjIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) :
    Σ' (L6 : List (View.Piece (Elt F) S512x1024 .f32)), Σ' (L7 : List (View.Piece (Elt F) S1x8x512x128 .bf16)), Σ' (L8 : List (View.Piece (Elt F) S1x8x512x128 .bf16)), Σ' (L9 : List (View.Piece (Elt F) S1x8x512x128 .bf16)), { LS0 : List (View.Piece (Elt F) S512x2048 .bf16) //
      ∀ (xi7 : Vec F S1x8x512x128 .bf16) (xi8 : Vec F S1x8x512x128 .bf16) (xi9 : Vec F S1x8x512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ owns (c : Thread nD τ) arg12 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K } := by
  refine ⟨?_, [], [], [], [], fun xi7 xi8 xi9 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9; obtain rfl := harg12.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact HS0

end Cert.InProjIdeal.Kept

end
-- ==== Proof.InProjIdealRunC.lean ====
/- The body's run in case C. -/
module

public import proofs.«01_k».proof.Proof.InProjIdealRunB

@[expose] public section

set_option maxRecDepth 16384

noncomputable section

namespace Cert.InProjIdeal.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProjIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) :
    Σ' (L6 : List (View.Piece (Elt F) S512x1024 .f32)), Σ' (L7 : List (View.Piece (Elt F) S1x8x512x128 .bf16)), Σ' (L8 : List (View.Piece (Elt F) S1x8x512x128 .bf16)), Σ' (L9 : List (View.Piece (Elt F) S1x8x512x128 .bf16)), { LS0 : List (View.Piece (Elt F) S512x2048 .bf16) //
      ∀ (xi6 : Vec F S512x1024 .f32) (xi8 : Vec F S1x8x512x128 .bf16) (xi9 : Vec F S1x8x512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K } := by
  refine ⟨[], ?_, [], [], [], fun xi6 xi8 xi9 E K => ?run⟩
  case run =>
    simp only [cc0_in_proj_eq_skeleton]; unfold cc0_in_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact HS0

end Cert.InProjIdeal.Kept

end
-- ==== Proof.InProjIdealRunD.lean ====
/- The body's run in case D. -/
module

public import proofs.«01_k».proof.Proof.InProjIdealRunC

@[expose] public section

set_option maxRecDepth 16384

noncomputable section

namespace Cert.InProjIdeal.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProjIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_D (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) :
    Σ' (L6 : List (View.Piece (Elt F) S512x1024 .f32)), Σ' (L7 : List (View.Piece (Elt F) S1x8x512x128 .bf16)), Σ' (L8 : List (View.Piece (Elt F) S1x8x512x128 .bf16)), Σ' (L9 : List (View.Piece (Elt F) S1x8x512x128 .bf16)), { LS0 : List (View.Piece (Elt F) S512x2048 .bf16) //
      ∀ (xi6 : Vec F S512x1024 .f32) (xi7 : Vec F S1x8x512x128 .bf16) (xi9 : Vec F S1x8x512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f L8) ∗ owns (c : Thread nD τ) arg11 fullShare xi9 ∗ owns (c : Thread nD τ) arg12 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K } := by
  refine ⟨[], [], ?_, [], [], fun xi6 xi7 xi9 E K => ?run⟩
  case run =>
    simp only [cc0_in_proj_eq_skeleton]; unfold cc0_in_proj_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; isplitr; · ipureintro; exact harg12.read_unread _
    iexact HS0

end Cert.InProjIdeal.Kept

end
-- ==== Proof.InProjIdealRunE.lean ====
/- The body's run in case E. -/
module

public import proofs.«01_k».proof.Proof.InProjIdealRunD

@[expose] public section

set_option maxRecDepth 16384

noncomputable section

namespace Cert.InProjIdeal.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProjIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_E (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : ¬cond0_3 i) (hc4 : cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xo6 : Vec F S512x1024 .f32) (xo7 : Vec F S1x8x512x128 .bf16) (xo8 : Vec F S1x8x512x128 .bf16) (xs0 : Vec F S512x2048 .bf16) :
    Σ' (L6 : List (View.Piece (Elt F) S512x1024 .f32)), Σ' (L7 : List (View.Piece (Elt F) S1x8x512x128 .bf16)), Σ' (L8 : List (View.Piece (Elt F) S1x8x512x128 .bf16)), Σ' (L9 : List (View.Piece (Elt F) S1x8x512x128 .bf16)), { LS0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ owns (c : Thread nD τ) arg10 fullShare xo8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ owns (c : Thread nD τ) arg10 fullShare xo8 ∗ (∃ f, arg11.view.loc (c : Thread nD τ) ↦[arg11.view.set]{fullShare} arg11.view.writes (Elt F) f L9) ∗ owns (c : Thread nD τ) arg12 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K } := by
  refine ⟨[], [], [], ?_, [], fun E K => ?run⟩
  case run =>
    simp only [cc0_in_proj_eq_skeleton]; unfold cc0_in_proj_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; isplitr; · ipureintro; exact harg12.read_unread _
    iexact HS0

end Cert.InProjIdeal.Kept

end
-- ==== Proof.InProjIdealDats.lean ====
/- What the outputs hold after each point, and the proof data. -/
module

public import proofs.«01_k».proof.Proof.InProjIdealRunE
public import Idealize.ShloMosaic.Lib.Claim

@[expose] public section

set_option maxRecDepth 16384

noncomputable section

namespace Cert.InProjIdeal.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProjIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5).1 S512x1024.size (by sl_kernel_rfl) y

def out0_A_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) : Vec F S512x1024 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5).1)

def out0_A_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xo7 : Vec F S1x8x512x128 .bf16) : Vec F S1x8x512x128 .bf16 := xo7

def out0_A_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xo8 : Vec F S1x8x512x128 .bf16) : Vec F S1x8x512x128 .bf16 := xo8

def out0_A_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) : Vec F S1x8x512x128 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5).2.2.2.1)

theorem scover0_A_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5).2.2.2.2.1 S512x2048.size (by sl_kernel_rfl) y

def sout0_A_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) : Vec F S512x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5).2.2.2.2.1)

theorem cover0_B_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).1 S512x1024.size (by sl_kernel_rfl) y

def out0_B_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) : Vec F S512x1024 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).1)

def out0_B_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) (xo7 : Vec F S1x8x512x128 .bf16) : Vec F S1x8x512x128 .bf16 := xo7

def out0_B_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) (xo8 : Vec F S1x8x512x128 .bf16) : Vec F S1x8x512x128 .bf16 := xo8

def out0_B_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) : Vec F S1x8x512x128 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).2.2.2.1)

def sout0_B_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : cond0_1 i) (hc2 : ¬cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) : Vec F S512x2048 .bf16 := xs0

def out0_C_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) (xo6 : Vec F S512x1024 .f32) : Vec F S512x1024 .f32 := xo6

theorem cover0_C_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) (y : S1x8x512x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).2.1 S1x1x512x128.size (by sl_kernel_rfl) y

def out0_C_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) : Vec F S1x8x512x128 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).2.1)

def out0_C_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) (xo8 : Vec F S1x8x512x128 .bf16) : Vec F S1x8x512x128 .bf16 := xo8

def out0_C_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) : Vec F S1x8x512x128 .bf16 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).2.2.2.1)

def sout0_C_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : cond0_2 i) (hc3 : ¬cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) : Vec F S512x2048 .bf16 := xs0

def out0_D_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) (xo6 : Vec F S512x1024 .f32) : Vec F S512x1024 .f32 := xo6

def out0_D_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) (xo7 : Vec F S1x8x512x128 .bf16) : Vec F S1x8x512x128 .bf16 := xo7

theorem cover0_D_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) (y : S1x8x512x128.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).2.2.1 S1x1x512x128.size (by sl_kernel_rfl) y

def out0_D_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) : Vec F S1x8x512x128 .bf16 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).2.2.1)

def out0_D_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) : Vec F S1x8x512x128 .bf16 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xs0).2.2.2.1)

def sout0_D_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : cond0_3 i) (hc4 : ¬cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xs0 : Vec F S512x2048 .bf16) : Vec F S512x2048 .bf16 := xs0

def out0_E_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : ¬cond0_3 i) (hc4 : cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xo6 : Vec F S512x1024 .f32) (xo7 : Vec F S1x8x512x128 .bf16) (xo8 : Vec F S1x8x512x128 .bf16) (xs0 : Vec F S512x2048 .bf16) : Vec F S512x1024 .f32 := xo6

def out0_E_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : ¬cond0_3 i) (hc4 : cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xo6 : Vec F S512x1024 .f32) (xo7 : Vec F S1x8x512x128 .bf16) (xo8 : Vec F S1x8x512x128 .bf16) (xs0 : Vec F S512x2048 .bf16) : Vec F S1x8x512x128 .bf16 := xo7

def out0_E_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : ¬cond0_3 i) (hc4 : cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xo6 : Vec F S512x1024 .f32) (xo7 : Vec F S1x8x512x128 .bf16) (xo8 : Vec F S1x8x512x128 .bf16) (xs0 : Vec F S512x2048 .bf16) : Vec F S1x8x512x128 .bf16 := xo8

theorem cover0_E_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : ¬cond0_3 i) (hc4 : cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xo6 : Vec F S512x1024 .f32) (xo7 : Vec F S1x8x512x128 .bf16) (xo8 : Vec F S1x8x512x128 .bf16) (xs0 : Vec F S512x2048 .bf16) (y : S1x8x512x128.Idx) :
    ∃ pc ∈ (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xo6 xo7 xo8 xs0).2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xo6 xo7 xo8 xs0).2.2.2.1 S1x1x512x128.size (by sl_kernel_rfl) y

def out0_E_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : ¬cond0_3 i) (hc4 : cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xo6 : Vec F S512x1024 .f32) (xo7 : Vec F S1x8x512x128 .bf16) (xo8 : Vec F S1x8x512x128 .bf16) (xs0 : Vec F S512x2048 .bf16) : Vec F S1x8x512x128 .bf16 :=
  VO0_9.read (Elt F) (VO0_9.writes (Elt F) VO0_9.junk (kernelRun0_E c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 xo6 xo7 xo8 xs0).2.2.2.1)

def sout0_E_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S1x8x512x128 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S512x2048 .bf16) (harg12 : arg12.IsWhole) (hc0 : ¬cond0_0 i) (hc1 : ¬cond0_1 i) (hc2 : ¬cond0_2 i) (hc3 : ¬cond0_3 i) (hc4 : cond0_4 i)
    (x0 : Vec F S512x2048 .f32) (x1 : Vec F S1x2048 .f32) (x2 : Vec F S2048x1024 .bf16) (x3 : Vec F S512x128 .f32) (x4 : Vec F S512x128 .f32) (x5 : Vec F S512x128 .f32) (xo6 : Vec F S512x1024 .f32) (xo7 : Vec F S1x8x512x128 .bf16) (xo8 : Vec F S1x8x512x128 .bf16) (xs0 : Vec F S512x2048 .bf16) : Vec F S512x2048 .bf16 := xs0

def outsAt0 (c : Dev nD) : (n : ℕ) → n < cfg0.N → Vec F S512x1024 .f32 × Vec F S1x8x512x128 .bf16 × Vec F S1x8x512x128 .bf16 × Vec F S1x8x512x128 .bf16 × Vec F S512x2048 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((VO0_6.read (Elt F) VO0_6.junk, VO0_7.read (Elt F) VO0_7.junk, VO0_8.read (Elt F) VO0_8.junk, VO0_9.read (Elt F) VO0_9.junk, VS0_0.read (Elt F) VS0_0.junk) : Vec F S512x1024 .f32 × Vec F S1x8x512x128 .bf16 × Vec F S1x8x512x128 .bf16 × Vec F S1x8x512x128 .bf16 × Vec F S512x2048 .bf16).2.1, out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((VO0_6.read (Elt F) VO0_6.junk, VO0_7.read (Elt F) VO0_7.junk, VO0_8.read (Elt F) VO0_8.junk, VO0_9.read (Elt F) VO0_9.junk, VS0_0.read (Elt F) VS0_0.junk) : Vec F S512x1024 .f32 × Vec F S1x8x512x128 .bf16 × Vec F S1x8x512x128 .bf16 × Vec F S1x8x512x128 .bf16 × Vec F S512x2048 .bf16).2.2.1, out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 6 = 0 then
      if h1 : (n + 1) % 6 ≤ 2 then
        if h2 : (n + 1) % 6 = 3 then
          False.elim (by have hN : n + 1 < 576 := lt_of_lt_of_eq hn (show cfg0.N = 576 from N_0); omega)
        else
          if h3 : (n + 1) % 6 = 4 then
            False.elim (by have hN : n + 1 < 576 := lt_of_lt_of_eq hn (show cfg0.N = 576 from N_0); omega)
          else
            if h4 : (n + 1) % 6 = 5 then
              False.elim (by have hN : n + 1 < 576 := lt_of_lt_of_eq hn (show cfg0.N = 576 from N_0); omega)
            else
              (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1, out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1, out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        False.elim (by have hN : n + 1 < 576 := lt_of_lt_of_eq hn (show cfg0.N = 576 from N_0); omega)
    else
      if h1 : (n + 1) % 6 ≤ 2 then
        if h2 : (n + 1) % 6 = 3 then
          False.elim (by have hN : n + 1 < 576 := lt_of_lt_of_eq hn (show cfg0.N = 576 from N_0); omega)
        else
          if h3 : (n + 1) % 6 = 4 then
            False.elim (by have hN : n + 1 < 576 := lt_of_lt_of_eq hn (show cfg0.N = 576 from N_0); omega)
          else
            if h4 : (n + 1) % 6 = 5 then
              False.elim (by have hN : n + 1 < 576 := lt_of_lt_of_eq hn (show cfg0.N = 576 from N_0); omega)
            else
              (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2 (outsAt0 c n (Nat.lt_of_succ_lt hn)).2.1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2 (outsAt0 c n (Nat.lt_of_succ_lt hn)).2.2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2)
      else
        if h2 : (n + 1) % 6 = 3 then
          if h3 : (n + 1) % 6 = 4 then
            False.elim (by have hN : n + 1 < 576 := lt_of_lt_of_eq hn (show cfg0.N = 576 from N_0); omega)
          else
            if h4 : (n + 1) % 6 = 5 then
              False.elim (by have hN : n + 1 < 576 := lt_of_lt_of_eq hn (show cfg0.N = 576 from N_0); omega)
            else
              (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2 (outsAt0 c n (Nat.lt_of_succ_lt hn)).1, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2 (outsAt0 c n (Nat.lt_of_succ_lt hn)).2.2.1, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2)
        else
          if h3 : (n + 1) % 6 = 4 then
            if h4 : (n + 1) % 6 = 5 then
              False.elim (by have hN : n + 1 < 576 := lt_of_lt_of_eq hn (show cfg0.N = 576 from N_0); omega)
            else
              (out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2 (outsAt0 c n (Nat.lt_of_succ_lt hn)).1, out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2 (outsAt0 c n (Nat.lt_of_succ_lt hn)).2.1, out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2)
          else
            if h4 : (n + 1) % 6 = 5 then
              (out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.2, out0_E_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.2, out0_E_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.2, out0_E_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.2)
            else
              False.elim (by have hN : n + 1 < 576 := lt_of_lt_of_eq hn (show cfg0.N = 576 from N_0); omega)

theorem outsAt0_A (c : Dev nD) (t : Fin cfg0.N) (h0 : t.val % 6 = 0) (h1 : t.val % 6 ≤ 2) (h2 : ¬t.val % 6 = 3) (h3 : ¬t.val % 6 = 4) (h4 : ¬t.val % 6 = 5) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1, out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1, out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_pos h1).trans ((dif_neg h2).trans ((dif_neg h3).trans ((dif_neg h4).trans rfl))))

theorem outsAt0_B (c : Dev nD) (t : Fin cfg0.N) (h0 : ¬t.val % 6 = 0) (h1 : t.val % 6 ≤ 2) (h2 : ¬t.val % 6 = 3) (h3 : ¬t.val % 6 = 4) (h4 : ¬t.val % 6 = 5) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans rfl))))

theorem outsAt0_C (c : Dev nD) (t : Fin cfg0.N) (h0 : ¬t.val % 6 = 0) (h1 : ¬t.val % 6 ≤ 2) (h2 : t.val % 6 = 3) (h3 : ¬t.val % 6 = 4) (h4 : ¬t.val % 6 = 5) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).1, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.2.1, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

theorem outsAt0_D (c : Dev nD) (t : Fin cfg0.N) (h0 : ¬t.val % 6 = 0) (h1 : ¬t.val % 6 ≤ 2) (h2 : ¬t.val % 6 = 3) (h3 : t.val % 6 = 4) (h4 : ¬t.val % 6 = 5) :
    outsAt0 m c t.val t.isLt = (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).1, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.1, out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

theorem outsAt0_E (c : Dev nD) (t : Fin cfg0.N) (h0 : ¬t.val % 6 = 0) (h1 : ¬t.val % 6 ≤ 2) (h2 : ¬t.val % 6 = 3) (h3 : ¬t.val % 6 = 4) (h4 : t.val % 6 = 5) :
    outsAt0 m c t.val t.isLt = (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2, out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2, out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2, out0_E_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 576 := lt_of_lt_of_eq t.isLt (show cfg0.N = 576 from N_0)
  rw [after0_6, after0_6]
  by_cases h0 : t.val % 6 = 0
  · by_cases h1 : t.val % 6 ≤ 2
    · by_cases h2 : t.val % 6 = 3
      · exfalso; omega
      · by_cases h3 : t.val % 6 = 4
        · exfalso; omega
        · by_cases h4 : t.val % 6 = 5
          · exfalso; omega
          · rw [liveAt0_6_A t ((hcond0_0 t).mpr h0) ((hcond0_1 t).mpr h1) (fun h => h2 ((hcond0_2 t).mp h)) (fun h => h3 ((hcond0_3 t).mp h)) (fun h => h4 ((hcond0_4 t).mp h))] at hi
            exact absurd hi Bool.false_ne_true
    · exfalso; omega
  · by_cases h1 : t.val % 6 ≤ 2
    · by_cases h2 : t.val % 6 = 3
      · exfalso; omega
      · by_cases h3 : t.val % 6 = 4
        · exfalso; omega
        · by_cases h4 : t.val % 6 = 5
          · exfalso; omega
          · rw [liveAt0_6_B t (fun h => h0 ((hcond0_0 t).mp h)) ((hcond0_1 t).mpr h1) (fun h => h2 ((hcond0_2 t).mp h)) (fun h => h3 ((hcond0_3 t).mp h)) (fun h => h4 ((hcond0_4 t).mp h))] at hi
            exact absurd hi Bool.false_ne_true
    · by_cases h2 : t.val % 6 = 3
      · by_cases h3 : t.val % 6 = 4
        · exfalso; omega
        · by_cases h4 : t.val % 6 = 5
          · exfalso; omega
          · rw [outsAt0_C m c t h0 h1 h2 h3 h4]
            dsimp only
            unfold out0_C_6
            rfl
      · by_cases h3 : t.val % 6 = 4
        · by_cases h4 : t.val % 6 = 5
          · exfalso; omega
          · rw [outsAt0_D m c t h0 h1 h2 h3 h4]
            dsimp only
            unfold out0_D_6
            rfl
        · by_cases h4 : t.val % 6 = 5
          · rw [outsAt0_E m c t h0 h1 h2 h3 h4]
            dsimp only
            unfold out0_E_6
            rfl
          · exfalso; omega

theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 576 := lt_of_lt_of_eq t.isLt (show cfg0.N = 576 from N_0)
  rw [after0_7, after0_7]
  by_cases h0 : t.val % 6 = 0
  · by_cases h1 : t.val % 6 ≤ 2
    · by_cases h2 : t.val % 6 = 3
      · exfalso; omega
      · by_cases h3 : t.val % 6 = 4
        · exfalso; omega
        · by_cases h4 : t.val % 6 = 5
          · exfalso; omega
          · rw [outsAt0_A m c t h0 h1 h2 h3 h4]
            dsimp only
            unfold out0_A_7
            rfl
    · exfalso; omega
  · by_cases h1 : t.val % 6 ≤ 2
    · by_cases h2 : t.val % 6 = 3
      · exfalso; omega
      · by_cases h3 : t.val % 6 = 4
        · exfalso; omega
        · by_cases h4 : t.val % 6 = 5
          · exfalso; omega
          · rw [outsAt0_B m c t h0 h1 h2 h3 h4]
            dsimp only
            unfold out0_B_7
            rfl
    · by_cases h2 : t.val % 6 = 3
      · by_cases h3 : t.val % 6 = 4
        · exfalso; omega
        · by_cases h4 : t.val % 6 = 5
          · exfalso; omega
          · rw [liveAt0_7_C t (fun h => h0 ((hcond0_0 t).mp h)) (fun h => h1 ((hcond0_1 t).mp h)) ((hcond0_2 t).mpr h2) (fun h => h3 ((hcond0_3 t).mp h)) (fun h => h4 ((hcond0_4 t).mp h))] at hi
            exact absurd hi Bool.false_ne_true
      · by_cases h3 : t.val % 6 = 4
        · by_cases h4 : t.val % 6 = 5
          · exfalso; omega
          · rw [outsAt0_D m c t h0 h1 h2 h3 h4]
            dsimp only
            unfold out0_D_7
            rfl
        · by_cases h4 : t.val % 6 = 5
          · rw [outsAt0_E m c t h0 h1 h2 h3 h4]
            dsimp only
            unfold out0_E_7
            rfl
          · exfalso; omega

theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 576 := lt_of_lt_of_eq t.isLt (show cfg0.N = 576 from N_0)
  rw [after0_8, after0_8]
  by_cases h0 : t.val % 6 = 0
  · by_cases h1 : t.val % 6 ≤ 2
    · by_cases h2 : t.val % 6 = 3
      · exfalso; omega
      · by_cases h3 : t.val % 6 = 4
        · exfalso; omega
        · by_cases h4 : t.val % 6 = 5
          · exfalso; omega
          · rw [outsAt0_A m c t h0 h1 h2 h3 h4]
            dsimp only
            unfold out0_A_8
            rfl
    · exfalso; omega
  · by_cases h1 : t.val % 6 ≤ 2
    · by_cases h2 : t.val % 6 = 3
      · exfalso; omega
      · by_cases h3 : t.val % 6 = 4
        · exfalso; omega
        · by_cases h4 : t.val % 6 = 5
          · exfalso; omega
          · rw [outsAt0_B m c t h0 h1 h2 h3 h4]
            dsimp only
            unfold out0_B_8
            rfl
    · by_cases h2 : t.val % 6 = 3
      · by_cases h3 : t.val % 6 = 4
        · exfalso; omega
        · by_cases h4 : t.val % 6 = 5
          · exfalso; omega
          · rw [outsAt0_C m c t h0 h1 h2 h3 h4]
            dsimp only
            unfold out0_C_8
            rfl
      · by_cases h3 : t.val % 6 = 4
        · by_cases h4 : t.val % 6 = 5
          · exfalso; omega
          · rw [liveAt0_8_D t (fun h => h0 ((hcond0_0 t).mp h)) (fun h => h1 ((hcond0_1 t).mp h)) (fun h => h2 ((hcond0_2 t).mp h)) ((hcond0_3 t).mpr h3) (fun h => h4 ((hcond0_4 t).mp h))] at hi
            exact absurd hi Bool.false_ne_true
        · by_cases h4 : t.val % 6 = 5
          · rw [outsAt0_E m c t h0 h1 h2 h3 h4]
            dsimp only
            unfold out0_E_8
            rfl
          · exfalso; omega

theorem before0_6_E (c : Dev nD) (t : Fin cfg0.N) (h0 : ¬t.val % 6 = 0) (h1 : ¬t.val % 6 ≤ 2) (h2 : ¬t.val % 6 = 3) (h3 : ¬t.val % 6 = 4) (h4 : t.val % 6 = 5) (d) :
    (dats m 0 c).before 6 t d = (outsAt0 m c (t.val - 1) (Nat.lt_of_le_of_lt (Nat.sub_le _ _) t.isLt)).1 := by
  rw [Dat.before_out_traj _ 6 rfl (fun _ _ => rfl) (hcarry0_6 m c) t.val t rfl d,
    if_neg (by rw [notFresh0_6_E t (fun h => h0 ((hcond0_0 t).mp h)) (fun h => h1 ((hcond0_1 t).mp h)) (fun h => h2 ((hcond0_2 t).mp h)) (fun h => h3 ((hcond0_3 t).mp h)) ((hcond0_4 t).mpr h4)]; exact Bool.false_ne_true)]
  dsimp only [dats]

theorem before0_7_E (c : Dev nD) (t : Fin cfg0.N) (h0 : ¬t.val % 6 = 0) (h1 : ¬t.val % 6 ≤ 2) (h2 : ¬t.val % 6 = 3) (h3 : ¬t.val % 6 = 4) (h4 : t.val % 6 = 5) (d) :
    (dats m 0 c).before 7 t d = (outsAt0 m c (t.val - 1) (Nat.lt_of_le_of_lt (Nat.sub_le _ _) t.isLt)).2.1 := by
  rw [Dat.before_out_traj _ 7 rfl (fun _ _ => rfl) (hcarry0_7 m c) t.val t rfl d,
    if_neg (by rw [notFresh0_7_E t (fun h => h0 ((hcond0_0 t).mp h)) (fun h => h1 ((hcond0_1 t).mp h)) (fun h => h2 ((hcond0_2 t).mp h)) (fun h => h3 ((hcond0_3 t).mp h)) ((hcond0_4 t).mpr h4)]; exact Bool.false_ne_true)]
  dsimp only [dats]

theorem before0_8_E (c : Dev nD) (t : Fin cfg0.N) (h0 : ¬t.val % 6 = 0) (h1 : ¬t.val % 6 ≤ 2) (h2 : ¬t.val % 6 = 3) (h3 : ¬t.val % 6 = 4) (h4 : t.val % 6 = 5) (d) :
    (dats m 0 c).before 8 t d = (outsAt0 m c (t.val - 1) (Nat.lt_of_le_of_lt (Nat.sub_le _ _) t.isLt)).2.2.1 := by
  rw [Dat.before_out_traj _ 8 rfl (fun _ _ => rfl) (hcarry0_8 m c) t.val t rfl d,
    if_neg (by rw [notFresh0_8_E t (fun h => h0 ((hcond0_0 t).mp h)) (fun h => h1 ((hcond0_1 t).mp h)) (fun h => h2 ((hcond0_2 t).mp h)) (fun h => h3 ((hcond0_3 t).mp h)) ((hcond0_4 t).mpr h4)]; exact Bool.false_ne_true)]
  dsimp only [dats]

end Cert.InProjIdeal.Kept

end
-- ==== Proof.InProjIdealFrame.lean ====
/- The frame. -/
module

public import proofs.«01_k».proof.Proof.InProjIdealDats
public import Idealize.ShloMosaic.Lib.Claim

@[expose] public section

set_option maxRecDepth 16384

noncomputable section

namespace Cert.InProjIdeal.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProjIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 16000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 576 := lt_of_lt_of_eq t.isLt (show cfg0.N = 576 from N_0)
  by_cases h0 : t.val % 6 = 0
  · by_cases h1 : t.val % 6 ≤ 2
    · by_cases h2 : t.val % 6 = 3
      · exfalso; omega
      · by_cases h3 : t.val % 6 = 4
        · exfalso; omega
        · by_cases h4 : t.val % 6 = 5
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h)) (fun h => h3 ((hcond0_3 t).mp h)) (fun h => h4 ((hcond0_4 t).mp h))], after0_6]
            rw [Dat.leavesExact_idle (dats m 0 c) 7 t (idleAt0_7_A t ((hcond0_0 t).mpr h0) ((hcond0_1 t).mpr h1) (fun h => h2 ((hcond0_2 t).mp h)) (fun h => h3 ((hcond0_3 t).mp h)) (fun h => h4 ((hcond0_4 t).mp h))) (noFlush0_7_A t ((hcond0_0 t).mpr h0) ((hcond0_1 t).mpr h1) (fun h => h2 ((hcond0_2 t).mp h)) (fun h => h3 ((hcond0_3 t).mp h)) (fun h => h4 ((hcond0_4 t).mp h)))]
            rw [Dat.leavesExact_idle (dats m 0 c) 8 t (idleAt0_8_A t ((hcond0_0 t).mpr h0) ((hcond0_1 t).mpr h1) (fun h => h2 ((hcond0_2 t).mp h)) (fun h => h3 ((hcond0_3 t).mp h)) (fun h => h4 ((hcond0_4 t).mp h))) (noFlush0_8_A t ((hcond0_0 t).mpr h0) ((hcond0_1 t).mpr h1) (fun h => h2 ((hcond0_2 t).mp h)) (fun h => h3 ((hcond0_3 t).mp h)) (fun h => h4 ((hcond0_4 t).mp h)))]
            rw [Dat.leavesExact_idle (dats m 0 c) 9 t (idleAt0_9_A t ((hcond0_0 t).mpr h0) ((hcond0_1 t).mpr h1) (fun h => h2 ((hcond0_2 t).mp h)) (fun h => h3 ((hcond0_3 t).mp h)) (fun h => h4 ((hcond0_4 t).mp h))) (noFlush0_9_A t ((hcond0_0 t).mpr h0) ((hcond0_1 t).mpr h1) (fun h => h2 ((hcond0_2 t).mp h)) (fun h => h3 ((hcond0_3 t).mp h)) (fun h => h4 ((hcond0_4 t).mp h)))]
            by_cases hz : t.val = 0
            · rw [PhiS_castSucc m c t, PhiS_zero m c _ _ hz, PhiA0_eq]
              rw [outsAt0_A m c t h0 h1 h2 h3 h4]
              unfold out0_A_6 sout0_A_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)).2.2.2.2.2 _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexact H7
              isplitl [H8]; · iexact H8
              isplitl [H9]; · iexact H9
              isplitl [HS0]; · iexact HS0
              iintro ⟨H0, H1, H2, H3, H4, H5, ⟨%e6, H6⟩, H7, H8, H9, ⟨%es0, HS0⟩⟩
              isplitl [HS0 Hg]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_A_6 c _ _ _ _ _ _ _ _ _ _ _ _ _ _ _ _ _ _ _ _ _ _ _ _ _ _ _ _ _ _ _ _ _ _)
              isplitl [H7]; · iexists _; iexact H7
              isplitl [H8]; · iexists _; iexact H8
              iexists _; iexact H9
            · rw [PhiS_castSucc m c t, PhiS_pos m c _ _ hz]
              rw [outsAt0_A m c t h0 h1 h2 h3 h4]
              unfold out0_A_6 sout0_A_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)).2.2.2.2.2 _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexact H7
              isplitl [H8]; · iexact H8
              isplitl [H9]; · iexact H9
              isplitl [HS0]; · iexists _; iexact HS0
              iintro ⟨H0, H1, H2, H3, H4, H5, ⟨%e6, H6⟩, H7, H8, H9, ⟨%es0, HS0⟩⟩
              isplitl [HS0 Hg]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_A_6 c _ _ _ _ _ _ _ _ _ _ _ _ _ _ _ _ _ _ _ _ _ _ _ _ _ _ _ _ _ _ _ _ _ _)
              isplitl [H7]; · iexists _; iexact H7
              isplitl [H8]; · iexists _; iexact H8
              iexists _; iexact H9
    · exfalso; omega
  · by_cases h1 : t.val % 6 ≤ 2
    · by_cases h2 : t.val % 6 = 3
      · exfalso; omega
      · by_cases h3 : t.val % 6 = 4
        · exfalso; omega
        · by_cases h4 : t.val % 6 = 5
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h)) (fun h => h3 ((hcond0_3 t).mp h)) (fun h => h4 ((hcond0_4 t).mp h))], after0_6]
            rw [Dat.leavesExact_idle (dats m 0 c) 7 t (idleAt0_7_B t (fun h => h0 ((hcond0_0 t).mp h)) ((hcond0_1 t).mpr h1) (fun h => h2 ((hcond0_2 t).mp h)) (fun h => h3 ((hcond0_3 t).mp h)) (fun h => h4 ((hcond0_4 t).mp h))) (noFlush0_7_B t (fun h => h0 ((hcond0_0 t).mp h)) ((hcond0_1 t).mpr h1) (fun h => h2 ((hcond0_2 t).mp h)) (fun h => h3 ((hcond0_3 t).mp h)) (fun h => h4 ((hcond0_4 t).mp h)))]
            rw [Dat.leavesExact_idle (dats m 0 c) 8 t (idleAt0_8_B t (fun h => h0 ((hcond0_0 t).mp h)) ((hcond0_1 t).mpr h1) (fun h => h2 ((hcond0_2 t).mp h)) (fun h => h3 ((hcond0_3 t).mp h)) (fun h => h4 ((hcond0_4 t).mp h))) (noFlush0_8_B t (fun h => h0 ((hcond0_0 t).mp h)) ((hcond0_1 t).mpr h1) (fun h => h2 ((hcond0_2 t).mp h)) (fun h => h3 ((hcond0_3 t).mp h)) (fun h => h4 ((hcond0_4 t).mp h)))]
            rw [Dat.leavesExact_idle (dats m 0 c) 9 t (idleAt0_9_B t (fun h => h0 ((hcond0_0 t).mp h)) ((hcond0_1 t).mpr h1) (fun h => h2 ((hcond0_2 t).mp h)) (fun h => h3 ((hcond0_3 t).mp h)) (fun h => h4 ((hcond0_4 t).mp h))) (noFlush0_9_B t (fun h => h0 ((hcond0_0 t).mp h)) ((hcond0_1 t).mpr h1) (fun h => h2 ((hcond0_2 t).mp h)) (fun h => h3 ((hcond0_3 t).mp h)) (fun h => h4 ((hcond0_4 t).mp h)))]
            by_cases hz : t.val = 0
            · exfalso; have hN : t.val < 576 := lt_of_lt_of_eq t.isLt (show cfg0.N = 576 from N_0); omega
            · rw [PhiS_castSucc m c t, PhiS_pos m c _ _ hz]
              rw [outsAt0_B m c t h0 h1 h2 h3 h4]
              unfold out0_B_6 sout0_B_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) _).2.2.2.2.2 _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexact H7
              isplitl [H8]; · iexact H8
              isplitl [H9]; · iexact H9
              isplitl [HS0]; · iexact HS0
              iintro ⟨H0, H1, H2, H3, H4, H5, ⟨%e6, H6⟩, H7, H8, H9, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_B_6 c _ _ _ _ _ _ _ _ _ _ _ _ _ _ _ _ _ _ _ _ _ _ _ _ _ _ _ _ _ _ _ _ _ _ _)
              isplitl [H7]; · iexists _; iexact H7
              isplitl [H8]; · iexists _; iexact H8
              iexists _; iexact H9
    · by_cases h2 : t.val % 6 = 3
      · by_cases h3 : t.val % 6 = 4
        · exfalso; omega
        · by_cases h4 : t.val % 6 = 5
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [Dat.leavesExact_idle (dats m 0 c) 6 t (idleAt0_6_C t (fun h => h0 ((hcond0_0 t).mp h)) (fun h => h1 ((hcond0_1 t).mp h)) ((hcond0_2 t).mpr h2) (fun h => h3 ((hcond0_3 t).mp h)) (fun h => h4 ((hcond0_4 t).mp h))) (noFlush0_6_C t (fun h => h0 ((hcond0_0 t).mp h)) (fun h => h1 ((hcond0_1 t).mp h)) ((hcond0_2 t).mpr h2) (fun h => h3 ((hcond0_3 t).mp h)) (fun h => h4 ((hcond0_4 t).mp h)))]
            rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2) (fun h => h3 ((hcond0_3 t).mp h)) (fun h => h4 ((hcond0_4 t).mp h))], after0_7]
            rw [Dat.leavesExact_idle (dats m 0 c) 8 t (idleAt0_8_C t (fun h => h0 ((hcond0_0 t).mp h)) (fun h => h1 ((hcond0_1 t).mp h)) ((hcond0_2 t).mpr h2) (fun h => h3 ((hcond0_3 t).mp h)) (fun h => h4 ((hcond0_4 t).mp h))) (noFlush0_8_C t (fun h => h0 ((hcond0_0 t).mp h)) (fun h => h1 ((hcond0_1 t).mp h)) ((hcond0_2 t).mpr h2) (fun h => h3 ((hcond0_3 t).mp h)) (fun h => h4 ((hcond0_4 t).mp h)))]
            rw [Dat.leavesExact_idle (dats m 0 c) 9 t (idleAt0_9_C t (fun h => h0 ((hcond0_0 t).mp h)) (fun h => h1 ((hcond0_1 t).mp h)) ((hcond0_2 t).mpr h2) (fun h => h3 ((hcond0_3 t).mp h)) (fun h => h4 ((hcond0_4 t).mp h))) (noFlush0_9_C t (fun h => h0 ((hcond0_0 t).mp h)) (fun h => h1 ((hcond0_1 t).mp h)) ((hcond0_2 t).mpr h2) (fun h => h3 ((hcond0_3 t).mp h)) (fun h => h4 ((hcond0_4 t).mp h)))]
            by_cases hz : t.val = 0
            · exfalso; have hN : t.val < 576 := lt_of_lt_of_eq t.isLt (show cfg0.N = 576 from N_0); omega
            · rw [PhiS_castSucc m c t, PhiS_pos m c _ _ hz]
              rw [outsAt0_C m c t h0 h1 h2 h3 h4]
              unfold out0_C_7 sout0_C_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) _).2.2.2.2.2 _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexact H8
              isplitl [H9]; · iexact H9
              isplitl [HS0]; · iexact HS0
              iintro ⟨H0, H1, H2, H3, H4, H5, H6, ⟨%e7, H7⟩, H8, H9, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]
              · unfold owns; iexists _; isplitr
                swap; · iexact H7
                ipureintro; exact View.read_writes_of_cover _ _ _ _ _ (cover0_C_7 c _ _ _ _ _ _ _ _ _ _ _ _ _ _ _ _ _ _ _ _ _ _ _ _ _ _ _ _ _ _ _ _ _ _ _)
              isplitl [H8]; · iexists _; iexact H8
              iexists _; iexact H9
      · by_cases h3 : t.val % 6 = 4
        · by_cases h4 : t.val % 6 = 5
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [Dat.leavesExact_idle (dats m 0 c) 6 t (idleAt0_6_D t (fun h => h0 ((hcond0_0 t).mp h)) (fun h => h1 ((hcond0_1 t).mp h)) (fun h => h2 ((hcond0_2 t).mp h)) ((hcond0_3 t).mpr h3) (fun h => h4 ((hcond0_4 t).mp h))) (noFlush0_6_D t (fun h => h0 ((hcond0_0 t).mp h)) (fun h => h1 ((hcond0_1 t).mp h)) (fun h => h2 ((hcond0_2 t).mp h)) ((hcond0_3 t).mpr h3) (fun h => h4 ((hcond0_4 t).mp h)))]
            rw [Dat.leavesExact_idle (dats m 0 c) 7 t (idleAt0_7_D t (fun h => h0 ((hcond0_0 t).mp h)) (fun h => h1 ((hcond0_1 t).mp h)) (fun h => h2 ((hcond0_2 t).mp h)) ((hcond0_3 t).mpr h3) (fun h => h4 ((hcond0_4 t).mp h))) (noFlush0_7_D t (fun h => h0 ((hcond0_0 t).mp h)) (fun h => h1 ((hcond0_1 t).mp h)) (fun h => h2 ((hcond0_2 t).mp h)) ((hcond0_3 t).mpr h3) (fun h => h4 ((hcond0_4 t).mp h)))]
            rw [show (dats m 0 c).leavesExact 8 t = owns (c : Thread nD τ) (ms0_8 t) fullShare ((dats m 0 c).after 8 t) from by
      unfold Dat.leavesExact; rw [liveAt0_8_D t (fun h => h0 ((hcond0_0 t).mp h)) (fun h => h1 ((hcond0_1 t).mp h)) (fun h => h2 ((hcond0_2 t).mp h)) ((hcond0_3 t).mpr h3) (fun h => h4 ((hcond0_4 t).mp h))], after0_8]
            rw [Dat.leavesExact_idle (dats m 0 c) 9 t (idleAt0_9_D t (fun h => h0 ((hcond0_0 t).mp h)) (fun h => h1 ((hcond0_1 t).mp h)) (fun h => h2 ((hcond0_2 t).mp h)) ((hcond0_3 t).mpr h3) (fun h => h4 ((hcond0_4 t).mp h))) (noFlush0_9_D t (fun h => h0 ((hcond0_0 t).mp h)) (fun h => h1 ((hcond0_1 t).mp h)) (fun h => h2 ((hcond0_2 t).mp h)) ((hcond0_3 t).mpr h3) (fun h => h4 ((hcond0_4 t).mp h)))]
            by_cases hz : t.val = 0
            · exfalso; have hN : t.val < 576 := lt_of_lt_of_eq t.isLt (show cfg0.N = 576 from N_0); omega
            · rw [PhiS_castSucc m c t, PhiS_pos m c _ _ hz]
              rw [outsAt0_D m c t h0 h1 h2 h3 h4]
              unfold out0_D_8 sout0_D_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_D c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) _).2.2.2.2.2 _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexists _; iexact H8
              isplitl [H9]; · iexact H9
              isplitl [HS0]; · iexact HS0
              iintro ⟨H0, H1, H2, H3, H4, H5, H6, H7, ⟨%e8, H8⟩, H9, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [H8]
              · unfold owns; iexists _; isplitr
                swap; · iexact H8
                ipureintro; exact View.read_writes_of_cover _ _ _ _ _ (cover0_D_8 c _ _ _ _ _ _ _ _ _ _ _ _ _ _ _ _ _ _ _ _ _ _ _ _ _ _ _ _ _ _ _ _ _ _ _)
              iexists _; iexact H9
        · by_cases h4 : t.val % 6 = 5
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [idleAt0_6_E t (fun h => h0 ((hcond0_0 t).mp h)) (fun h => h1 ((hcond0_1 t).mp h)) (fun h => h2 ((hcond0_2 t).mp h)) (fun h => h3 ((hcond0_3 t).mp h)) ((hcond0_4 t).mpr h4), doFlush0_6_E t (fun h => h0 ((hcond0_0 t).mp h)) (fun h => h1 ((hcond0_1 t).mp h)) (fun h => h2 ((hcond0_2 t).mp h)) (fun h => h3 ((hcond0_3 t).mp h)) ((hcond0_4 t).mpr h4)], after0_6]
            rw [show (dats m 0 c).leavesExact 7 t = owns (c : Thread nD τ) (ms0_7 t) fullShare ((dats m 0 c).after 7 t) from by
      unfold Dat.leavesExact; rw [idleAt0_7_E t (fun h => h0 ((hcond0_0 t).mp h)) (fun h => h1 ((hcond0_1 t).mp h)) (fun h => h2 ((hcond0_2 t).mp h)) (fun h => h3 ((hcond0_3 t).mp h)) ((hcond0_4 t).mpr h4), doFlush0_7_E t (fun h => h0 ((hcond0_0 t).mp h)) (fun h => h1 ((hcond0_1 t).mp h)) (fun h => h2 ((hcond0_2 t).mp h)) (fun h => h3 ((hcond0_3 t).mp h)) ((hcond0_4 t).mpr h4)], after0_7]
            rw [show (dats m 0 c).leavesExact 8 t = owns (c : Thread nD τ) (ms0_8 t) fullShare ((dats m 0 c).after 8 t) from by
      unfold Dat.leavesExact; rw [idleAt0_8_E t (fun h => h0 ((hcond0_0 t).mp h)) (fun h => h1 ((hcond0_1 t).mp h)) (fun h => h2 ((hcond0_2 t).mp h)) (fun h => h3 ((hcond0_3 t).mp h)) ((hcond0_4 t).mpr h4), doFlush0_8_E t (fun h => h0 ((hcond0_0 t).mp h)) (fun h => h1 ((hcond0_1 t).mp h)) (fun h => h2 ((hcond0_2 t).mp h)) (fun h => h3 ((hcond0_3 t).mp h)) ((hcond0_4 t).mpr h4)], after0_8]
            rw [show (dats m 0 c).leavesExact 9 t = owns (c : Thread nD τ) (ms0_9 t) fullShare ((dats m 0 c).after 9 t) from by
      unfold Dat.leavesExact; rw [liveAt0_9_E t (fun h => h0 ((hcond0_0 t).mp h)) (fun h => h1 ((hcond0_1 t).mp h)) (fun h => h2 ((hcond0_2 t).mp h)) (fun h => h3 ((hcond0_3 t).mp h)) ((hcond0_4 t).mpr h4)], after0_9]
            by_cases hz : t.val = 0
            · exfalso; have hN : t.val < 576 := lt_of_lt_of_eq t.isLt (show cfg0.N = 576 from N_0); omega
            · rw [PhiS_castSucc m c t, PhiS_pos m c _ _ hz]
              rw [outsAt0_E m c t h0 h1 h2 h3 h4]
              simp only [before0_6_E m c t h0 h1 h2 h3 h4, before0_7_E m c t h0 h1 h2 h3 h4, before0_8_E m c t h0 h1 h2 h3 h4]
              unfold out0_E_6 out0_E_7 out0_E_8 out0_E_9 sout0_E_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_E c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) _ _ _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexists _; iexact H9
              isplitl [HS0]; · iexact HS0
              iintro ⟨H0, H1, H2, H3, H4, H5, H6, H7, H8, ⟨%e9, H9⟩, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              unfold owns; iexists _; isplitr
              swap; · iexact H9
              ipureintro; exact View.read_writes_of_cover _ _ _ _ _ (cover0_E_9 c _ _ _ _ _ _ _ _ _ _ _ _ _ _ _ _ _ _ _ _ _ _ _ _ _ _ _ _ _ _ _ _ _ _ _ _ _ _)
          · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 576 := N_0; omega)

set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InProjIdeal.Kept

end
-- ==== Proof.InProjIdealValue.lean ====
/- The value of the run. -/
module

public import proofs.«01_k».proof.Proof.InProjIdealFrame
public import Idealize.ShloMosaic.Lib.Pipeline.Value

@[expose] public section

noncomputable section

namespace Cert.InProjIdeal.Value

open Cert.InProjIdeal Cert.InProjIdeal.Gen Cert.InProjIdeal.Kept Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

theorem flushed6_A (c : Dev nD) (t : Fin cfg0.N) (h0 : t.val % 6 = 0) (h1 : t.val % 6 ≤ 2) (h2 : ¬t.val % 6 = 3) (h3 : ¬t.val % 6 = 4) (h4 : ¬t.val % 6 = 5) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)) := by
  simp only [flushed6, outsAt0_A m c t h0 h1 h2 h3 h4]

theorem flushed6_B (c : Dev nD) (t : Fin cfg0.N) (h0 : ¬t.val % 6 = 0) (h1 : t.val % 6 ≤ 2) (h2 : ¬t.val % 6 = 3) (h3 : ¬t.val % 6 = 4) (h4 : ¬t.val % 6 = 5) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  simp only [flushed6, outsAt0_B m c t h0 h1 h2 h3 h4]

theorem flushed6_C (c : Dev nD) (t : Fin cfg0.N) (h0 : ¬t.val % 6 = 0) (h1 : ¬t.val % 6 ≤ 2) (h2 : t.val % 6 = 3) (h3 : ¬t.val % 6 = 4) (h4 : ¬t.val % 6 = 5) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).1) := by
  simp only [flushed6, outsAt0_C m c t h0 h1 h2 h3 h4]

theorem flushed6_D (c : Dev nD) (t : Fin cfg0.N) (h0 : ¬t.val % 6 = 0) (h1 : ¬t.val % 6 ≤ 2) (h2 : ¬t.val % 6 = 3) (h3 : t.val % 6 = 4) (h4 : ¬t.val % 6 = 5) :
    (dats m 0 c).flushed 6 t = (cfg0.win 6).cut (grid0.coords t) (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).1) := by
  simp only [flushed6, outsAt0_D m c t h0 h1 h2 h3 h4]

theorem flushed6_E (c : Dev nD) (t : Fin cfg0.N) (h0 : ¬t.val % 6 = 0) (h1 : ¬t.val % 6 ≤ 2) (h2 : ¬t.val % 6 = 3) (h3 : ¬t.val % 6 = 4) (h4 : t.val % 6 = 5) :
    (dats m 0 c).flushed 6 t = (cfg0.win 6).cut (grid0.coords t) (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2) := by
  simp only [flushed6, outsAt0_E m c t h0 h1 h2 h3 h4]

theorem entry6 (c : Dev nD) (i : S49152x3072.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

theorem flushed7_A (c : Dev nD) (t : Fin cfg0.N) (h0 : t.val % 6 = 0) (h1 : t.val % 6 ≤ 2) (h2 : ¬t.val % 6 = 3) (h3 : ¬t.val % 6 = 4) (h4 : ¬t.val % 6 = 5) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1) := by
  simp only [flushed7, outsAt0_A m c t h0 h1 h2 h3 h4]

theorem flushed7_B (c : Dev nD) (t : Fin cfg0.N) (h0 : ¬t.val % 6 = 0) (h1 : t.val % 6 ≤ 2) (h2 : ¬t.val % 6 = 3) (h3 : ¬t.val % 6 = 4) (h4 : ¬t.val % 6 = 5) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.1) := by
  simp only [flushed7, outsAt0_B m c t h0 h1 h2 h3 h4]

theorem flushed7_C (c : Dev nD) (t : Fin cfg0.N) (h0 : ¬t.val % 6 = 0) (h1 : ¬t.val % 6 ≤ 2) (h2 : t.val % 6 = 3) (h3 : ¬t.val % 6 = 4) (h4 : ¬t.val % 6 = 5) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  simp only [flushed7, outsAt0_C m c t h0 h1 h2 h3 h4]

theorem flushed7_D (c : Dev nD) (t : Fin cfg0.N) (h0 : ¬t.val % 6 = 0) (h1 : ¬t.val % 6 ≤ 2) (h2 : ¬t.val % 6 = 3) (h3 : t.val % 6 = 4) (h4 : ¬t.val % 6 = 5) :
    (dats m 0 c).flushed 7 t = (cfg0.win 7).cut (grid0.coords t) (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.1) := by
  simp only [flushed7, outsAt0_D m c t h0 h1 h2 h3 h4]

theorem flushed7_E (c : Dev nD) (t : Fin cfg0.N) (h0 : ¬t.val % 6 = 0) (h1 : ¬t.val % 6 ≤ 2) (h2 : ¬t.val % 6 = 3) (h3 : ¬t.val % 6 = 4) (h4 : t.val % 6 = 5) :
    (dats m 0 c).flushed 7 t = (cfg0.win 7).cut (grid0.coords t) (out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2) := by
  simp only [flushed7, outsAt0_E m c t h0 h1 h2 h3 h4]

theorem entry7 (c : Dev nD) (i : S6x8x8192x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

theorem flushed8 (c : Dev nD) (t : Fin cfg0.N) :
    (dats m 0 c).flushed 8 t = (cfg0.win 8).cut (grid0.coords t) ((outsAt0 m c t.val t.isLt).2.2.1) := by
  show (cfg0.win 8).cut (grid0.coords t) ((dats m 0 c).after 8 t) = _
  rw [after0_8]

theorem flushed8_A (c : Dev nD) (t : Fin cfg0.N) (h0 : t.val % 6 = 0) (h1 : t.val % 6 ≤ 2) (h2 : ¬t.val % 6 = 3) (h3 : ¬t.val % 6 = 4) (h4 : ¬t.val % 6 = 5) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1) := by
  simp only [flushed8, outsAt0_A m c t h0 h1 h2 h3 h4]

theorem flushed8_B (c : Dev nD) (t : Fin cfg0.N) (h0 : ¬t.val % 6 = 0) (h1 : t.val % 6 ≤ 2) (h2 : ¬t.val % 6 = 3) (h3 : ¬t.val % 6 = 4) (h4 : ¬t.val % 6 = 5) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.2.1) := by
  simp only [flushed8, outsAt0_B m c t h0 h1 h2 h3 h4]

theorem flushed8_C (c : Dev nD) (t : Fin cfg0.N) (h0 : ¬t.val % 6 = 0) (h1 : ¬t.val % 6 ≤ 2) (h2 : t.val % 6 = 3) (h3 : ¬t.val % 6 = 4) (h4 : ¬t.val % 6 = 5) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.2.1) := by
  simp only [flushed8, outsAt0_C m c t h0 h1 h2 h3 h4]

theorem flushed8_D (c : Dev nD) (t : Fin cfg0.N) (h0 : ¬t.val % 6 = 0) (h1 : ¬t.val % 6 ≤ 2) (h2 : ¬t.val % 6 = 3) (h3 : t.val % 6 = 4) (h4 : ¬t.val % 6 = 5) :
    (dats m 0 c).flushed 8 t = (cfg0.win 8).cut (grid0.coords t) (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  simp only [flushed8, outsAt0_D m c t h0 h1 h2 h3 h4]

theorem flushed8_E (c : Dev nD) (t : Fin cfg0.N) (h0 : ¬t.val % 6 = 0) (h1 : ¬t.val % 6 ≤ 2) (h2 : ¬t.val % 6 = 3) (h3 : ¬t.val % 6 = 4) (h4 : t.val % 6 = 5) :
    (dats m 0 c).flushed 8 t = (cfg0.win 8).cut (grid0.coords t) (out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2) := by
  simp only [flushed8, outsAt0_E m c t h0 h1 h2 h3 h4]

theorem entry8 (c : Dev nD) (i : S6x8x8192x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

theorem flushed9 (c : Dev nD) (t : Fin cfg0.N) :
    (dats m 0 c).flushed 9 t = (cfg0.win 9).cut (grid0.coords t) ((outsAt0 m c t.val t.isLt).2.2.2.1) := by
  show (cfg0.win 9).cut (grid0.coords t) ((dats m 0 c).after 9 t) = _
  rw [after0_9]

theorem flushed9_A (c : Dev nD) (t : Fin cfg0.N) (h0 : t.val % 6 = 0) (h1 : t.val % 6 ≤ 2) (h2 : ¬t.val % 6 = 3) (h3 : ¬t.val % 6 = 4) (h4 : ¬t.val % 6 = 5) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)) := by
  simp only [flushed9, outsAt0_A m c t h0 h1 h2 h3 h4]

theorem flushed9_B (c : Dev nD) (t : Fin cfg0.N) (h0 : ¬t.val % 6 = 0) (h1 : t.val % 6 ≤ 2) (h2 : ¬t.val % 6 = 3) (h3 : ¬t.val % 6 = 4) (h4 : ¬t.val % 6 = 5) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  simp only [flushed9, outsAt0_B m c t h0 h1 h2 h3 h4]

theorem flushed9_C (c : Dev nD) (t : Fin cfg0.N) (h0 : ¬t.val % 6 = 0) (h1 : ¬t.val % 6 ≤ 2) (h2 : t.val % 6 = 3) (h3 : ¬t.val % 6 = 4) (h4 : ¬t.val % 6 = 5) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  simp only [flushed9, outsAt0_C m c t h0 h1 h2 h3 h4]

theorem flushed9_D (c : Dev nD) (t : Fin cfg0.N) (h0 : ¬t.val % 6 = 0) (h1 : ¬t.val % 6 ≤ 2) (h2 : ¬t.val % 6 = 3) (h3 : t.val % 6 = 4) (h4 : ¬t.val % 6 = 5) :
    (dats m 0 c).flushed 9 t = (cfg0.win 9).cut (grid0.coords t) (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  simp only [flushed9, outsAt0_D m c t h0 h1 h2 h3 h4]

theorem flushed9_E (c : Dev nD) (t : Fin cfg0.N) (h0 : ¬t.val % 6 = 0) (h1 : ¬t.val % 6 ≤ 2) (h2 : ¬t.val % 6 = 3) (h3 : ¬t.val % 6 = 4) (h4 : t.val % 6 = 5) :
    (dats m 0 c).flushed 9 t = (cfg0.win 9).cut (grid0.coords t) (out0_E_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2) := by
  simp only [flushed9, outsAt0_E m c t h0 h1 h2 h3 h4]

theorem entry9 (c : Dev nD) (i : S6x8x8192x128.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

theorem post6 (r : PUnit × MemSt nD τ sig (Elt F)) (h : Pipeline.FramePost cfgs (dats m) 0 (V m) r) (c : Dev nD) :
    r.2.mem ((c : Thread nD τ).loc main_v14_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v14_1) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v14_2) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v14_3) = (dats m 0 c).arrAt 9 cfg0.N :=
  (h c).1 9

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem run_blocks : θ_run defs (onTc (τ := τ) (main (F := F))) ⟨m, fun _ => 0, ρ⟩ fun r => ∀ c : Dev nD,
      r.2.mem ((c : Thread nD τ).loc main_v14_0) = (dats m 0 c).arrAt 6 cfg0.N
      ∧ r.2.mem ((c : Thread nD τ).loc main_v14_1) = (dats m 0 c).arrAt 7 cfg0.N
      ∧ r.2.mem ((c : Thread nD τ).loc main_v14_2) = (dats m 0 c).arrAt 8 cfg0.N
      ∧ r.2.mem ((c : Thread nD τ).loc main_v14_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.InProjIdeal.Value

end
-- ==== Proof.InProjPay.lean ====
/-
The projection's payloads at an index: the normalized rows, the product with one column block of
the weights, and the rotation of a pair of 64-wide halves.
-/
module

public import Idealize.ShloMosaic.Lib.Pointwise
public import proofs.«01_k».proof.Proof.Gen.InProjIdeal.Skeleton

@[expose] public section

set_option maxRecDepth 16384

noncomputable section

open Idealize.ShloMosaic Idealize.ShloMosaic.TcCoe Idealize.SL.Sem

namespace Cert.InProjIdeal.Pay

open Cert.InProjIdeal Cert.InProjIdeal.Gen

/-- A row divided by the root of its mean square, times the scale. -/
def rms (x : FVec Ideal S512x2048 .f32) (g : FVec Ideal S1x2048 .f32) (r : Fin 512) (d : Fin 2048) : EReal :=
  x (ix2 r d) * Ideal.rsqrt (Ideal.div (∑ e : Fin 2048, x (ix2 r e) * x (ix2 r e)) (Ideal.ofBits .f32 0x45000000#32)
    + Ideal.ofBits .f32 0x358637BD#32) * g (ix2 0 d)

theorem pay1_apply (x : FVec Ideal S512x2048 .f32) (g : FVec Ideal S1x2048 .f32) (r : Fin 512) (d : Fin 2048) :
    k0_pay1 (F := Ideal) x g (ix2 r d) = rms x g r d := by
  pointwise [k0_pay1, rms]

theorem pay2_apply (h : FVec Ideal S512x2048 .bf16) (w : FVec Ideal S2048x1024 .bf16) (r : Fin 512) (n : Fin 1024) :
    k0_pay2 (F := Ideal) h w (ix2 r n) = ∑ d : Fin 2048, h (ix2 r d) * w (ix2 d n) := by
  pointwise [k0_pay2]

/-- The column of feature `l` of head `h`. -/
def col (h : ℕ) (hh : h < 8) (l : ℕ) (hl : l < 128) : Fin 1024 := ⟨h * 128 + l, by omega⟩

variable (p : FVec Ideal S512x1024 .f32) (cs sa sb : FVec Ideal S512x128 .f32) (r : Fin 512) (l : Fin 128)

/-- Head `h` of the product, turned by the three tables. -/
def rot (h : ℕ) (hh : h < 8) : EReal :=
  p (ix2 r (col h hh l.val l.isLt)) * cs (ix2 r l)
    + p (ix2 r (col h hh ((l.val + 128 - 96) % 128) (Nat.mod_lt _ (by decide)))) * sa (ix2 r l)
    + p (ix2 r (col h hh ((l.val + 128 - 32) % 128) (Nat.mod_lt _ (by decide)))) * sb (ix2 r l)

/-- The same, scaled. -/
abbrev rotq (h : ℕ) (hh : h < 8) : EReal := rot p cs sa sb r l h hh * Ideal.ofBits .f32 0x3E000000#32

theorem q0 : k0_pay7 (F := Ideal) p cs sa sb (ix4 0 0 r l)
    = rotq p cs sa sb r l 0 (by decide) := by
  pointwise [k0_pay7, rotq, rot, col]

theorem q1 : k0_pay9 (F := Ideal) (k0_pay8 (F := Ideal) p cs sa sb) (ix4 0 0 r l)
    = rotq p cs sa sb r l 1 (by decide) := by
  pointwise [k0_pay8, k0_pay9, rotq, rot, col]

theorem q2 : k0_pay10 (F := Ideal) p cs sa sb (ix4 0 0 r l)
    = rotq p cs sa sb r l 2 (by decide) := by
  pointwise [k0_pay10, rotq, rot, col]

theorem q3 : k0_pay14 (F := Ideal) (k0_pay12 (F := Ideal) p cs sa) (k0_pay13 (F := Ideal) p) sb (ix4 0 0 r l)
    = rotq p cs sa sb r l 3 (by decide) := by
  pointwise [k0_pay11, k0_pay12, k0_pay13, k0_pay14, rotq, rot, col]

theorem q4 : k0_pay15 (F := Ideal) p cs sa sb (ix4 0 0 r l)
    = rotq p cs sa sb r l 4 (by decide) := by
  pointwise [k0_pay15, rotq, rot, col]

theorem q5 : k0_pay19 (F := Ideal) (k0_pay16 (F := Ideal) p) (k0_pay17 (F := Ideal) p cs) (k0_pay18 (F := Ideal) p) sa sb (ix4 0 0 r l)
    = rotq p cs sa sb r l 5 (by decide) := by
  pointwise [k0_pay16, k0_pay17, k0_pay18, k0_pay19, rotq, rot, col]

theorem q6 : k0_pay20 (F := Ideal) p cs sa sb (ix4 0 0 r l)
    = rotq p cs sa sb r l 6 (by decide) := by
  pointwise [k0_pay20, rotq, rot, col]

theorem q7 : k0_pay3 (F := Ideal) (k0_pay21 (F := Ideal) p) cs sa sb (ix4 0 0 r l)
    = rotq p cs sa sb r l 7 (by decide) := by
  pointwise [k0_pay21, k0_pay3, rotq, rot, col]

theorem k0 : k0_pay22 (F := Ideal) p cs sa sb (ix4 0 0 r l)
    = rot p cs sa sb r l 0 (by decide) := by
  pointwise [k0_pay22, rot, col]

theorem k1 : k0_pay24 (F := Ideal) (k0_pay23 (F := Ideal) p cs sa sb) (ix4 0 0 r l)
    = rot p cs sa sb r l 1 (by decide) := by
  pointwise [k0_pay23, k0_pay24, rot, col]

theorem k2 : k0_pay25 (F := Ideal) p cs sa sb (ix4 0 0 r l)
    = rot p cs sa sb r l 2 (by decide) := by
  pointwise [k0_pay25, rot, col]

theorem k3 : k0_pay27 (F := Ideal) (k0_pay26 (F := Ideal) p cs sa sb) (ix4 0 0 r l)
    = rot p cs sa sb r l 3 (by decide) := by
  pointwise [k0_pay26, k0_pay27, rot, col]

theorem k4 : k0_pay28 (F := Ideal) p cs sa sb (ix4 0 0 r l)
    = rot p cs sa sb r l 4 (by decide) := by
  pointwise [k0_pay28, rot, col]

theorem k5 : k0_pay30 (F := Ideal) (k0_pay29 (F := Ideal) p cs sa sb) (ix4 0 0 r l)
    = rot p cs sa sb r l 5 (by decide) := by
  pointwise [k0_pay29, k0_pay30, rot, col]

theorem k6 : k0_pay31 (F := Ideal) p cs sa sb (ix4 0 0 r l)
    = rot p cs sa sb r l 6 (by decide) := by
  pointwise [k0_pay31, rot, col]

theorem k7 : k0_pay4 (F := Ideal) (k0_pay32 (F := Ideal) p cs sa sb) (ix4 0 0 r l)
    = rot p cs sa sb r l 7 (by decide) := by
  pointwise [k0_pay32, k0_pay4, rot, col]

theorem v0 : k0_pay33 (F := Ideal) p (ix4 0 0 r l) = p (ix2 r (col 0 (by decide) l.val l.isLt)) := by
  pointwise [k0_pay33, col]

theorem v1 : k0_pay34 (F := Ideal) p (ix4 0 0 r l) = p (ix2 r (col 1 (by decide) l.val l.isLt)) := by
  pointwise [k0_pay34, col]

theorem v2 : k0_pay35 (F := Ideal) p (ix4 0 0 r l) = p (ix2 r (col 2 (by decide) l.val l.isLt)) := by
  pointwise [k0_pay35, col]

theorem v3 : k0_pay36 (F := Ideal) p (ix4 0 0 r l) = p (ix2 r (col 3 (by decide) l.val l.isLt)) := by
  pointwise [k0_pay36, col]

theorem v4 : k0_pay37 (F := Ideal) p (ix4 0 0 r l) = p (ix2 r (col 4 (by decide) l.val l.isLt)) := by
  pointwise [k0_pay37, col]

theorem v5 : k0_pay38 (F := Ideal) p (ix4 0 0 r l) = p (ix2 r (col 5 (by decide) l.val l.isLt)) := by
  pointwise [k0_pay38, col]

variable (y : FVec Ideal S512x2048 .bf16) (w : FVec Ideal S2048x1024 .bf16)

theorem v6 : k0_pay5 (F := Ideal) y w (ix4 0 0 r l) = k0_pay2 (F := Ideal) y w (ix2 r (col 6 (by decide) l.val l.isLt)) := by
  generalize e : k0_pay2 (F := Ideal) y w = p
  pointwise [k0_pay5, e, col]

theorem v7 : k0_pay6 (F := Ideal) y w (ix4 0 0 r l) = k0_pay2 (F := Ideal) y w (ix2 r (col 7 (by decide) l.val l.isLt)) := by
  generalize e : k0_pay2 (F := Ideal) y w = p
  pointwise [k0_pay6, e, col]

end Cert.InProjIdeal.Pay

end
-- ==== Proof.InProjHeads.lean ====
/-
A buffer of eight heads, written head by head: what is read back at an index is the payload of the
last store into that index's head.
-/
module

public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Heads

/-- Eight heads of 512 rows. -/
abbrev All : Shape := ⟨4, ![1, 8, 512, 128]⟩
/-- One head. -/
abbrev One : Shape := ⟨4, ![1, 1, 512, 128]⟩

variable {φ : EltTy}

/-- Head number `p`, as a rectangle of the eight. -/
abbrev head (p : ℕ) (h : ∀ a, (![0, p, 0, 0] : Fin 4 → ℕ) a + One.size a ≤ All.size a) : Rect All :=
  Rect.unit (s := All) ![0, p, 0, 0] One.size h

variable (p : ℕ) (h : ∀ a, (![0, p, 0, 0] : Fin 4 → ℕ) a + One.size a ≤ All.size a)
  (w : One.Idx → Elt Ideal φ) (L : List (View.Piece (Elt Ideal) All φ)) (q : Fin 8) (r : Fin 512) (d : Fin 128)

theorem emb_head (hq : q.val = p) : (head p h).emb (ix4 0 0 r d : One.Idx) = (ix4 0 q r d : All.Idx) := by
  funext a
  apply Fin.ext
  rw [Rect.emb_apply]
  fin_cases a
  · rfl
  · show p + 1 * 0 = q.val; omega
  · show 0 + 1 * r.val = r.val; omega
  · show 0 + 1 * d.val = d.val; omega

/-- An index reads the payload of the last store, when that went into its head. -/
theorem read_same (hq : q.val = p) :
    View.canon ((⟨head p h, w⟩ : View.Piece (Elt Ideal) All φ) :: L) (ix4 0 q r d) = w (ix4 0 0 r d) := by
  rw [← emb_head p h q r d hq]
  exact View.canon_cons_emb _ _ _ _

/-- A store into another head is passed over. -/
theorem read_other (hq : q.val ≠ p) :
    View.canon ((⟨head p h, w⟩ : View.Piece (Elt Ideal) All φ) :: L) (ix4 0 q r d) = View.canon L (ix4 0 q r d) := by
  apply View.canon_cons_of_not_mem
  intro hm
  have := (Rect.mem_set_unit.mp (show ix4 0 q r d ∈ (Rect.unit (s := All) ![0, p, 0, 0] One.size h).set from hm)) 1
  have h1 : p ≤ q.val := this.1
  have h2 : q.val < p + 1 := this.2
  omega

end Cert.Heads

end
-- ==== Proof.InProjOuts.lean ====
/-
The projection: over the six column blocks of one row block the kernel keeps the normalized rows; the
first three blocks are the hidden part, the next two the turned queries and keys, the last the values.
-/
module

public import Idealize.ShloMosaic.Lib.Pipeline.ReadBack
public import Idealize.ShloMosaic.Lib.Pointwise
public import Idealize.ShloMosaic.Lib.Pipeline.ValueKit
public import proofs.«01_k».proof.Proof.InProjIdealDats
public import proofs.«01_k».proof.Proof.InProjPay
public import proofs.«01_k».proof.Proof.InProjHeads

@[expose] public section

set_option maxRecDepth 16384

noncomputable section

open Idealize.ShloMosaic Idealize.ShloMosaic.TcCoe Idealize.SL.Sem
open Idealize.ShloMosaic.Pipeline (Dat)

namespace Cert.InProjIdeal.Val

open Cert.InProjIdeal Cert.InProjIdeal.Gen Cert.InProjIdeal.Kept Cert.InProjIdeal.Pay Cert.Heads

/-- The block index of every window at every grid point. -/
theorem idx : ∀ t : Fin cfg0.N, win0_0.index t = ![t.val / 6, 0] ∧ win0_1.index t = ![0, 0] ∧ win0_2.index t = ![0, t.val % 6]
    ∧ win0_3.index t = ![t.val / 6 % 16, 0] ∧ win0_4.index t = ![t.val / 6 % 16, 0] ∧ win0_5.index t = ![t.val / 6 % 16, 0]
    ∧ win0_6.index t = ![t.val / 6, min (t.val % 6) 2] ∧ win0_7.index t = ![t.val / 96, 0, t.val / 6 % 16, 0]
    ∧ win0_8.index t = ![t.val / 96, 0, t.val / 6 % 16, 0] ∧ win0_9.index t = ![t.val / 96, 0, t.val / 6 % 16, 0] :=
  (by decide +kernel : ∀ t : Fin grid0.N, _)

variable (m : (ℓ : Loc nD τ sig) → Buf (Elt Ideal) ℓ) (c : Dev nD) (t : Fin cfg0.N)

/-- The normalized rows of the block of point `t`. -/
def nrm : FVec Ideal S512x2048 .bf16 := k0_pay1 (F := Ideal) (iblk m c 0 t) (iblk m c 1 t)

/-- The point before. -/
abbrev prev : Fin cfg0.N := ⟨t.val - 1, Nat.lt_of_le_of_lt (Nat.sub_le _ _) t.isLt⟩

theorem nrm_prev (h : ¬t.val % 6 = 0) : nrm m c (prev t) = nrm m c t := by
  unfold nrm
  congr 1 <;> funext y
  blk_ext [iblk, idx t, idx (prev t)]

/-- After the first point of a run the scratch is left alone. -/
theorem keep (h : ¬t.val % 6 = 0) :
    (outsAt0 m c t.val t.isLt).2.2.2.2 = (outsAt0 m c (prev t).val (prev t).isLt).2.2.2.2 := by
  have hl := Nat.mod_lt t.val (show 6 > 0 by decide)
  by_cases h1 : t.val % 6 ≤ 2
  · rw [outsAt0_B m c t h h1 (by omega) (by omega) (by omega)]; dsimp only [sout0_B_0]
  by_cases h2 : t.val % 6 = 3
  · rw [outsAt0_C m c t h h1 h2 (by omega) (by omega)]; dsimp only [sout0_C_0]
  by_cases h3 : t.val % 6 = 4
  · rw [outsAt0_D m c t h h1 h2 h3 (by omega)]; dsimp only [sout0_D_0]
  · rw [outsAt0_E m c t h h1 h2 h3 (by omega)]; dsimp only [sout0_E_0]

/-- The first point of a run writes the normalized rows. -/
theorem start (h : t.val % 6 = 0) : (outsAt0 m c t.val t.isLt).2.2.2.2 = nrm m c t := by
  rw [outsAt0_A m c t h (by omega) (by omega) (by omega) (by omega)]
  frame_out; rfl

/-- The scratch holds the normalized rows at every point of a run. -/
theorem scratch0 (n : ℕ) (hn : n < cfg0.N) : (outsAt0 m c n hn).2.2.2.2 = nrm m c ⟨n, hn⟩ := by
  induction n with
  | zero => exact start m c ⟨0, hn⟩ rfl
  | succ n ih =>
    by_cases h0 : (n + 1) % 6 = 0
    · exact start m c ⟨n + 1, hn⟩ h0
    · have k := keep m c ⟨n + 1, hn⟩ h0
      have e := nrm_prev m c ⟨n + 1, hn⟩ h0
      simp only [prev, Nat.add_sub_cancel] at k e
      rw [k, ← e]
      exact ih _

/-- The product of point `t`. -/
def res : FVec Ideal S512x1024 .f32 := k0_pay2 (F := Ideal) (nrm m c t) (iblk m c 2 t)

/-- The first three points of a run write the product. -/
theorem hidden_out (h : t.val % 6 ≤ 2) : (outsAt0 m c t.val t.isLt).1 = res m c t := by
  unfold res
  by_cases h0 : t.val % 6 = 0
  · rw [outsAt0_A m c t h0 h (by omega) (by omega) (by omega)]
    frame_out; rfl
  · have e := (scratch0 m c (prev t).val (prev t).isLt).trans (nrm_prev m c t h0)
    rw [outsAt0_B m c t h0 h (by omega) (by omega) (by omega)]
    frame_out
    rw [read_unread_whole, e]

/-- The later points leave it. -/
theorem hidden_keep (h : ¬t.val % 6 ≤ 2) :
    (outsAt0 m c t.val t.isLt).1 = (outsAt0 m c (prev t).val (prev t).isLt).1 := by
  have hl := Nat.mod_lt t.val (show 6 > 0 by decide)
  by_cases h2 : t.val % 6 = 3
  · rw [outsAt0_C m c t (by omega) h h2 (by omega) (by omega)]; dsimp only [out0_C_6]
  by_cases h3 : t.val % 6 = 4
  · rw [outsAt0_D m c t (by omega) h h2 h3 (by omega)]; dsimp only [out0_D_6]
  · rw [outsAt0_E m c t (by omega) h h2 h3 (by omega)]; dsimp only [out0_E_6]

theorem query_keep (h : t.val % 6 = 4 ∨ t.val % 6 = 5) :
    (outsAt0 m c t.val t.isLt).2.1 = (outsAt0 m c (prev t).val (prev t).isLt).2.1 := by
  by_cases h3 : t.val % 6 = 4
  · rw [outsAt0_D m c t (by omega) (by omega) (by omega) h3 (by omega)]; dsimp only [out0_D_7]
  · rw [outsAt0_E m c t (by omega) (by omega) (by omega) h3 (by omega)]; dsimp only [out0_E_7]

theorem key_keep (h : t.val % 6 = 5) :
    (outsAt0 m c t.val t.isLt).2.2.1 = (outsAt0 m c (prev t).val (prev t).isLt).2.2.1 := by
  rw [outsAt0_E m c t (by omega) (by omega) (by omega) (by omega) h]; dsimp only [out0_E_8]

/-- The fourth point writes the turned and scaled queries. -/
theorem query_out (ht : t.val % 6 = 3) (h : Fin 8) (r : Fin 512) (l : Fin 128) :
    (outsAt0 m c t.val t.isLt).2.1 (ix4 0 h r l) = rotq (res m c t) (iblk m c 3 t) (iblk m c 4 t) (iblk m c 5 t) r l h.val h.isLt := by
  have e := (scratch0 m c (prev t).val (prev t).isLt).trans (nrm_prev m c t (by omega))
  rw [outsAt0_C m c t (by omega) (by omega) ht (by omega) (by omega)]
  frame_out
  simp only [read_unread_whole, e]
  unfold res
  obtain ⟨h, hh⟩ := h
  interval_cases h
  · iterate 7 rw [read_other _ _ _ _ _ _ _ (by simp)]
    rw [read_same 0 _ _ _ ⟨0, hh⟩ r l rfl]
    exact Pay.q0 _ _ _ _ r l
  · iterate 6 rw [read_other _ _ _ _ _ _ _ (by simp)]
    rw [read_same 1 _ _ _ ⟨1, hh⟩ r l rfl]
    exact Pay.q1 _ _ _ _ r l
  · iterate 5 rw [read_other _ _ _ _ _ _ _ (by simp)]
    rw [read_same 2 _ _ _ ⟨2, hh⟩ r l rfl]
    exact Pay.q2 _ _ _ _ r l
  · iterate 4 rw [read_other _ _ _ _ _ _ _ (by simp)]
    rw [read_same 3 _ _ _ ⟨3, hh⟩ r l rfl]
    exact Pay.q3 _ _ _ _ r l
  · iterate 3 rw [read_other _ _ _ _ _ _ _ (by simp)]
    rw [read_same 4 _ _ _ ⟨4, hh⟩ r l rfl]
    exact Pay.q4 _ _ _ _ r l
  · iterate 2 rw [read_other _ _ _ _ _ _ _ (by simp)]
    rw [read_same 5 _ _ _ ⟨5, hh⟩ r l rfl]
    exact Pay.q5 _ _ _ _ r l
  · iterate 1 rw [read_other _ _ _ _ _ _ _ (by simp)]
    rw [read_same 6 _ _ _ ⟨6, hh⟩ r l rfl]
    exact Pay.q6 _ _ _ _ r l
  · rw [read_same 7 _ _ _ ⟨7, hh⟩ r l rfl]
    exact Pay.q7 _ _ _ _ r l

/-- The fifth point writes the turned keys. -/
theorem key_out (ht : t.val % 6 = 4) (h : Fin 8) (r : Fin 512) (l : Fin 128) :
    (outsAt0 m c t.val t.isLt).2.2.1 (ix4 0 h r l) = rot (res m c t) (iblk m c 3 t) (iblk m c 4 t) (iblk m c 5 t) r l h.val h.isLt := by
  have e := (scratch0 m c (prev t).val (prev t).isLt).trans (nrm_prev m c t (by omega))
  rw [outsAt0_D m c t (by omega) (by omega) (by omega) ht (by omega)]
  frame_out
  simp only [read_unread_whole, e]
  unfold res
  obtain ⟨h, hh⟩ := h
  interval_cases h
  · iterate 7 rw [read_other _ _ _ _ _ _ _ (by simp)]
    rw [read_same 0 _ _ _ ⟨0, hh⟩ r l rfl]
    exact Pay.k0 _ _ _ _ r l
  · iterate 6 rw [read_other _ _ _ _ _ _ _ (by simp)]
    rw [read_same 1 _ _ _ ⟨1, hh⟩ r l rfl]
    exact Pay.k1 _ _ _ _ r l
  · iterate 5 rw [read_other _ _ _ _ _ _ _ (by simp)]
    rw [read_same 2 _ _ _ ⟨2, hh⟩ r l rfl]
    exact Pay.k2 _ _ _ _ r l
  · iterate 4 rw [read_other _ _ _ _ _ _ _ (by simp)]
    rw [read_same 3 _ _ _ ⟨3, hh⟩ r l rfl]
    exact Pay.k3 _ _ _ _ r l
  · iterate 3 rw [read_other _ _ _ _ _ _ _ (by simp)]
    rw [read_same 4 _ _ _ ⟨4, hh⟩ r l rfl]
    exact Pay.k4 _ _ _ _ r l
  · iterate 2 rw [read_other _ _ _ _ _ _ _ (by simp)]
    rw [read_same 5 _ _ _ ⟨5, hh⟩ r l rfl]
    exact Pay.k5 _ _ _ _ r l
  · iterate 1 rw [read_other _ _ _ _ _ _ _ (by simp)]
    rw [read_same 6 _ _ _ ⟨6, hh⟩ r l rfl]
    exact Pay.k6 _ _ _ _ r l
  · rw [read_same 7 _ _ _ ⟨7, hh⟩ r l rfl]
    exact Pay.k7 _ _ _ _ r l

/-- The last point writes the values. -/
theorem value_out (ht : t.val % 6 = 5) (h : Fin 8) (r : Fin 512) (l : Fin 128) :
    (outsAt0 m c t.val t.isLt).2.2.2.1 (ix4 0 h r l) = res m c t (ix2 r (col h.val h.isLt l.val l.isLt)) := by
  have e := (scratch0 m c (prev t).val (prev t).isLt).trans (nrm_prev m c t (by omega))
  rw [outsAt0_E m c t (by omega) (by omega) (by omega) (by omega) ht]
  frame_out
  simp only [read_unread_whole, e]
  unfold res
  obtain ⟨h, hh⟩ := h
  interval_cases h
  · iterate 7 rw [read_other _ _ _ _ _ _ _ (by simp)]
    rw [read_same 0 _ _ _ ⟨0, hh⟩ r l rfl]
    exact Pay.v0 _ r l
  · iterate 6 rw [read_other _ _ _ _ _ _ _ (by simp)]
    rw [read_same 1 _ _ _ ⟨1, hh⟩ r l rfl]
    exact Pay.v1 _ r l
  · iterate 5 rw [read_other _ _ _ _ _ _ _ (by simp)]
    rw [read_same 2 _ _ _ ⟨2, hh⟩ r l rfl]
    exact Pay.v2 _ r l
  · iterate 4 rw [read_other _ _ _ _ _ _ _ (by simp)]
    rw [read_same 3 _ _ _ ⟨3, hh⟩ r l rfl]
    exact Pay.v3 _ r l
  · iterate 3 rw [read_other _ _ _ _ _ _ _ (by simp)]
    rw [read_same 4 _ _ _ ⟨4, hh⟩ r l rfl]
    exact Pay.v4 _ r l
  · iterate 2 rw [read_other _ _ _ _ _ _ _ (by simp)]
    rw [read_same 5 _ _ _ ⟨5, hh⟩ r l rfl]
    exact Pay.v5 _ r l
  · iterate 1 rw [read_other _ _ _ _ _ _ _ (by simp)]
    rw [read_same 6 _ _ _ ⟨6, hh⟩ r l rfl]
    exact Pay.v6 r l _ _
  · rw [read_same 7 _ _ _ ⟨7, hh⟩ r l rfl]
    exact Pay.v7 r l _ _

end Cert.InProjIdeal.Val

end
-- ==== Proof.InProjTab.lean ====
/-
The three tables the host lays out for the rotation, at an index.
-/
module

public import Idealize.ShloMosaic.Lib.Pointwise
public import Idealize.ShloMosaic.Lib.Claim
public import proofs.«01_k».proof.Proof.Gen.InProjIdeal.Launch

@[expose] public section

set_option maxRecDepth 16384

noncomputable section

open Idealize.ShloMosaic Idealize.ShloMosaic.TcCoe Idealize.SL.Sem

namespace Cert.InProjIdeal.Tab

open Cert.InProjIdeal Cert.InProjIdeal.Gen

/-- A table of 64 columns, twice side by side. -/
def twice (x : FVec Ideal S8192x64 .f32) : FVec Ideal S8192x128 .f32 :=
  shapeCast _ (broadcastInDim S1x8192x2x64 ![0, 1, 2, 3] bcast_S1x8192x1x64_S1x8192x2x64_0_1_2_3
    (shapeCast _ x shapeCasts_S8192x64_S1x8192x1x64)) shapeCasts_S1x8192x2x64_S8192x128

/-- Two tables of 32 columns side by side. -/
def pair (x y : FVec Ideal S8192x32 .f32) : FVec Ideal S8192x64 .f32 :=
  concatenate S8192x64 1 [⟨S8192x32, x⟩, ⟨S8192x32, y⟩] concatenates_S8192x32_S8192x32_S8192x64_d1

/-- The zero table. -/
def zero : FVec Ideal S8192x32 .f32 := broadcastInDim S8192x32 ![] bcast_S_S8192x32 (constant S_ .f32 0x00000000#32)

theorem zero_apply (i : S8192x32.Idx) : zero i = (0 : EReal) := by
  pointwise [zero]

theorem twice_apply (x : FVec Ideal S8192x64 .f32) (r : Fin 8192) (p : Fin 2) (k : Fin 64) :
    twice x (ix2 r ⟨p.val * 64 + k.val, by omega⟩) = x (ix2 r k) := by
  pointwise [twice]

theorem pair_left (x y : FVec Ideal S8192x32 .f32) (r : Fin 8192) (k : Fin 32) :
    pair x y (ix2 r ⟨k.val, by omega⟩) = x (ix2 r k) := by
  pointwise [pair]

theorem pair_right (x y : FVec Ideal S8192x32 .f32) (r : Fin 8192) (k : Fin 32) :
    pair x y (ix2 r ⟨32 + k.val, by omega⟩) = y (ix2 r k) := by
  pointwise [pair]

variable (m : (ℓ : Loc nD τ sig) → Buf (Elt Ideal) ℓ) (c : Dev nD)

/-- What the host's lines leave in an array. -/
abbrev V (b : Ref sig .tc) : Buf (Elt Ideal) ((c : Thread nD τ).loc b) := StableHlo.after hostOps0 (fun b => m (c, b)) b

theorem V4 : V m c main_v4 = twice (pair (m ((c : Thread nD τ).loc main_arg3)) (m ((c : Thread nD τ).loc main_arg3))) := by
  unfold_abbrev_sides
  after_results
  rfl

theorem V9 : V m c main_v9 = twice (pair (Host.negf (m ((c : Thread nD τ).loc main_arg4) : FVec Ideal S8192x32 .f32)) zero) := by
  unfold_abbrev_sides
  after_results
  rfl

theorem V13 : V m c main_v13 = twice (pair zero (m ((c : Thread nD τ).loc main_arg4))) := by
  unfold_abbrev_sides
  after_results
  rfl

end Cert.InProjIdeal.Tab

end
-- ==== Proof.InProjRef.lean ====
/-
The projection's reference at an index.
-/
module

public import Idealize.ShloMosaic.Lib.Pointwise
public import proofs.«01_k».proof.Proof.Gen.InProjRefIdeal.Read

@[expose] public section

set_option maxRecDepth 16384

noncomputable section

open Idealize.ShloMosaic Idealize.ShloMosaic.TcCoe Idealize.SL.Sem

namespace Cert.InProjRefIdeal.Val

open Cert.InProjRefIdeal Cert.InProjRefIdeal.Read

/-- A row of the whole array divided by the root of its mean square, times the scale. -/
def rmsAll (x : FVec Ideal S49152x2048 .f32) (g : FVec Ideal S1x2048 .f32) (r : Fin 49152) (d : Fin 2048) : EReal :=
  x (ix2 r d) * Ideal.rsqrt (Ideal.div (∑ e : Fin 2048, x (ix2 r e) * x (ix2 r e)) (Ideal.ofBits .f32 0x45000000#32)
    + Ideal.ofBits .f32 0x358637BD#32) * g (ix2 0 d)

/-- The whole product at a row and a column. -/
def prj (x : FVec Ideal S49152x2048 .f32) (g : FVec Ideal S1x2048 .f32) (w : FVec Ideal S2048x6144 .bf16) (r : Fin 49152) (n : Fin 6144) : EReal :=
  ∑ d : Fin 2048, rmsAll x g r d * w (ix2 d n)

variable (x0 : FVec Ideal S49152x2048 .f32) (x1 : FVec Ideal S1x2048 .f32) (x2 : FVec Ideal S2048x6144 .bf16)
  (x3 x4 : FVec Ideal S8192x32 .f32)

theorem ref13 (r : Fin 49152) (d : Fin 2048) : val_main_v13 (F := Ideal) x0 x1 (ix2 r d) = rmsAll x0 x1 r d := by
  pointwise [rmsAll, val_main_v0, val_main_v1, val_main_cst, val_main_v2, val_main_v3, val_main_cst_0, val_main_v4,
    val_main_v5, val_main_cst_1, val_main_v6, val_main_v7, val_main_v8, val_main_v9, val_main_v10, val_main_v11,
    val_main_v12, val_main_v13]

theorem ref15 (r : Fin 49152) (n : Fin 6144) : val_main_v15 (F := Ideal) x0 x1 x2 (ix2 r n) = prj x0 x1 x2 r n := by
  unfold prj
  simp only [← ref13]
  pointwise [val_main_v14, val_main_v15]

theorem ref16 (r : Fin 49152) (n : Fin 3072) : val_main_v16 (F := Ideal) x0 x1 x2 (ix2 r n)
    = prj x0 x1 x2 r ⟨n.val, by omega⟩ := by
  rw [val_main_v16_apply, ← ref15]
  congr 1
  funext a; apply Fin.ext; fin_cases a <;> simp

/-- Row `r` of sequence `s`. -/
def row (s : Fin 6) (r : Fin 8192) : Fin 49152 := ⟨s.val * 8192 + r.val, by omega⟩

theorem ref20 (s : Fin 6) (r : Fin 8192) (h : Fin 16) (k : Fin 64) : val_main_v20 (F := Ideal) x0 x1 x2 (ix4 s r h k)
    = prj x0 x1 x2 (row s r) ⟨3072 + (h.val * 64 + k.val), by omega⟩ := by
  rw [val_main_v20_apply, val_main_v17_apply, ← ref15]
  congr 1
  have h0 := s.isLt; have h1 := h.isLt; have h2 := r.isLt; have h3 := k.isLt
  refine funext fun a => Fin.ext ?_
  match a with
  | ⟨0, _⟩ => show (((s.val * 8192 + r.val) * 16 + h.val) * 64 + k.val) / 1024 = s.val * 8192 + r.val; omega
  | ⟨1, _⟩ => show 3072 + (((s.val * 8192 + r.val) * 16 + h.val) * 64 + k.val) % 1024 = 3072 + (h.val * 64 + k.val); omega

theorem ref38 (s : Fin 6) (r : Fin 8192) (h : Fin 16) (k : Fin 64) : val_main_v38 (F := Ideal) x0 x1 x2 (ix4 s r h k)
    = prj x0 x1 x2 (row s r) ⟨4096 + (h.val * 64 + k.val), by omega⟩ := by
  rw [val_main_v38_apply, val_main_v18_apply, ← ref15]
  congr 1
  have h0 := s.isLt; have h1 := h.isLt; have h2 := r.isLt; have h3 := k.isLt
  refine funext fun a => Fin.ext ?_
  match a with
  | ⟨0, _⟩ => show (((s.val * 8192 + r.val) * 16 + h.val) * 64 + k.val) / 1024 = s.val * 8192 + r.val; omega
  | ⟨1, _⟩ => show 4096 + (((s.val * 8192 + r.val) * 16 + h.val) * 64 + k.val) % 1024 = 4096 + (h.val * 64 + k.val); omega

theorem ref62 (s : Fin 6) (h : Fin 8) (r : Fin 8192) (l : Fin 128) : val_main_v62 (F := Ideal) x0 x1 x2 (ix4 s h r l)
    = prj x0 x1 x2 (row s r) ⟨5120 + (h.val * 128 + l.val), by omega⟩ := by
  rw [val_main_v62_apply, val_main_v61_apply, val_main_v60_apply, val_main_v19_apply, ← ref15]
  refine Eq.trans (b := val_main_v15 (F := Ideal) x0 x1 x2 _) rfl ?_
  congr 1
  have h0 := s.isLt; have h1 := h.isLt; have h2 := r.isLt; have h3 := l.isLt
  refine funext fun a => Fin.ext ?_
  match a with
  | ⟨0, _⟩ => show (((s.val * 8192 + r.val) * 8 + h.val) * 128 + l.val) / 1024 = s.val * 8192 + r.val; omega
  | ⟨1, _⟩ => show 5120 + (((s.val * 8192 + r.val) * 8 + h.val) * 128 + l.val) % 1024 = 5120 + (h.val * 128 + l.val); omega

/-- The first half of a head's features turned: `a·c − b·s`. -/
theorem ref29 (s : Fin 6) (r : Fin 8192) (h : Fin 16) (k : Fin 32) : val_main_v29 (F := Ideal) x0 x1 x2 x3 x4 (ix4 s r h k)
    = val_main_v20 (F := Ideal) x0 x1 x2 (ix4 s r h ⟨k.val, by omega⟩) * x3 (ix2 r k)
      - val_main_v20 (F := Ideal) x0 x1 x2 (ix4 s r h ⟨32 + k.val, by omega⟩) * x4 (ix2 r k) := by
  pointwise [val_main_v21, val_main_v22, val_main_v23, val_main_v24, val_main_v25, val_main_v26, val_main_v27, val_main_v28, val_main_v29]

theorem ref34 (s : Fin 6) (r : Fin 8192) (h : Fin 16) (k : Fin 32) : val_main_v34 (F := Ideal) x0 x1 x2 x3 x4 (ix4 s r h k)
    = val_main_v20 (F := Ideal) x0 x1 x2 (ix4 s r h ⟨k.val, by omega⟩) * x4 (ix2 r k)
      + val_main_v20 (F := Ideal) x0 x1 x2 (ix4 s r h ⟨32 + k.val, by omega⟩) * x3 (ix2 r k) := by
  pointwise [val_main_v21, val_main_v22, val_main_v23, val_main_v24, val_main_v30, val_main_v31, val_main_v32, val_main_v33, val_main_v34]

theorem ref47 (s : Fin 6) (r : Fin 8192) (h : Fin 16) (k : Fin 32) : val_main_v47 (F := Ideal) x0 x1 x2 x3 x4 (ix4 s r h k)
    = val_main_v38 (F := Ideal) x0 x1 x2 (ix4 s r h ⟨k.val, by omega⟩) * x3 (ix2 r k)
      - val_main_v38 (F := Ideal) x0 x1 x2 (ix4 s r h ⟨32 + k.val, by omega⟩) * x4 (ix2 r k) := by
  pointwise [val_main_v39, val_main_v40, val_main_v41, val_main_v42, val_main_v43, val_main_v44, val_main_v45, val_main_v46, val_main_v47]

theorem ref52 (s : Fin 6) (r : Fin 8192) (h : Fin 16) (k : Fin 32) : val_main_v52 (F := Ideal) x0 x1 x2 x3 x4 (ix4 s r h k)
    = val_main_v38 (F := Ideal) x0 x1 x2 (ix4 s r h ⟨k.val, by omega⟩) * x4 (ix2 r k)
      + val_main_v38 (F := Ideal) x0 x1 x2 (ix4 s r h ⟨32 + k.val, by omega⟩) * x3 (ix2 r k) := by
  pointwise [val_main_v39, val_main_v40, val_main_v41, val_main_v42, val_main_v48, val_main_v49, val_main_v50, val_main_v51, val_main_v52]

theorem at54 (s : Fin 6) (h : Fin 8) (r : Fin 8192) (p : Fin 2) (k : Fin 64) :
    idx_main_v54 (idx_main_v55 (ix4 s h r ⟨p.val * 64 + k.val, by omega⟩)) = ix4 s r ⟨2 * h.val + p.val, by omega⟩ k := by
  have h0 := s.isLt; have h1 := h.isLt; have h2 := r.isLt; have h3 := k.isLt; have h4 := p.isLt
  refine funext fun a => Fin.ext ?_
  match a with
  | ⟨0, _⟩ => show (((s.val * 8192 + r.val) * 8 + h.val) * 128 + (p.val * 64 + k.val)) / 8388608 = s.val; omega
  | ⟨1, _⟩ => show (((s.val * 8192 + r.val) * 8 + h.val) * 128 + (p.val * 64 + k.val)) / 1024 % 8192 = r.val; omega
  | ⟨2, _⟩ => show (((s.val * 8192 + r.val) * 8 + h.val) * 128 + (p.val * 64 + k.val)) / 64 % 16 = 2 * h.val + p.val; omega
  | ⟨3, _⟩ => show (((s.val * 8192 + r.val) * 8 + h.val) * 128 + (p.val * 64 + k.val)) % 64 = k.val; omega

theorem at57 (s : Fin 6) (h : Fin 8) (r : Fin 8192) (p : Fin 2) (k : Fin 64) :
    idx_main_v57 (idx_main_v58 (ix4 s h r ⟨p.val * 64 + k.val, by omega⟩)) = ix4 s r ⟨2 * h.val + p.val, by omega⟩ k :=
  at54 s h r p k

theorem ref56 (s : Fin 6) (h : Fin 8) (r : Fin 8192) (p : Fin 2) (k : Fin 64) :
    val_main_v56 (F := Ideal) x0 x1 x2 x3 x4 (ix4 s h r ⟨p.val * 64 + k.val, by omega⟩)
      = val_main_v35 (F := Ideal) x0 x1 x2 x3 x4 (ix4 s r ⟨2 * h.val + p.val, by omega⟩ k) * Ideal.ofBits .f32 0x3E000000#32 := by
  rw [val_main_v56_apply, val_main_v55_apply, val_main_v54_apply, at54, val_main_v37_apply, val_main_v36_apply, val_main_cst_2_apply]
  rfl

theorem ref59 (s : Fin 6) (h : Fin 8) (r : Fin 8192) (p : Fin 2) (k : Fin 64) :
    val_main_v59 (F := Ideal) x0 x1 x2 x3 x4 (ix4 s h r ⟨p.val * 64 + k.val, by omega⟩)
      = val_main_v53 (F := Ideal) x0 x1 x2 x3 x4 (ix4 s r ⟨2 * h.val + p.val, by omega⟩ k) := by
  rw [val_main_v59_apply, val_main_v58_apply, val_main_v57_apply, at57]
  rfl

theorem ref35a (s : Fin 6) (r : Fin 8192) (h : Fin 16) (k : Fin 32) :
    val_main_v35 (F := Ideal) x0 x1 x2 x3 x4 (ix4 s r h ⟨k.val, by omega⟩) = val_main_v29 (F := Ideal) x0 x1 x2 x3 x4 (ix4 s r h k) := by
  unfold val_main_v35
  generalize val_main_v29 (F := Ideal) x0 x1 x2 x3 x4 = a
  generalize val_main_v34 (F := Ideal) x0 x1 x2 x3 x4 = b
  pointwise

theorem ref35b (s : Fin 6) (r : Fin 8192) (h : Fin 16) (k : Fin 32) :
    val_main_v35 (F := Ideal) x0 x1 x2 x3 x4 (ix4 s r h ⟨32 + k.val, by omega⟩) = val_main_v34 (F := Ideal) x0 x1 x2 x3 x4 (ix4 s r h k) := by
  unfold val_main_v35
  generalize val_main_v29 (F := Ideal) x0 x1 x2 x3 x4 = a
  generalize val_main_v34 (F := Ideal) x0 x1 x2 x3 x4 = b
  pointwise

theorem ref53a (s : Fin 6) (r : Fin 8192) (h : Fin 16) (k : Fin 32) :
    val_main_v53 (F := Ideal) x0 x1 x2 x3 x4 (ix4 s r h ⟨k.val, by omega⟩) = val_main_v47 (F := Ideal) x0 x1 x2 x3 x4 (ix4 s r h k) := by
  unfold val_main_v53
  generalize val_main_v47 (F := Ideal) x0 x1 x2 x3 x4 = a
  generalize val_main_v52 (F := Ideal) x0 x1 x2 x3 x4 = b
  pointwise

theorem ref53b (s : Fin 6) (r : Fin 8192) (h : Fin 16) (k : Fin 32) :
    val_main_v53 (F := Ideal) x0 x1 x2 x3 x4 (ix4 s r h ⟨32 + k.val, by omega⟩) = val_main_v52 (F := Ideal) x0 x1 x2 x3 x4 (ix4 s r h k) := by
  unfold val_main_v53
  generalize val_main_v47 (F := Ideal) x0 x1 x2 x3 x4 = a
  generalize val_main_v52 (F := Ideal) x0 x1 x2 x3 x4 = b
  pointwise

end Cert.InProjRefIdeal.Val

end
-- ==== Proof.InProjFinal.lean ====
/-
The projection's four result arrays are the reference's at the same arguments.
-/
module

public import proofs.«01_k».proof.Proof.InProjOuts
public import proofs.«01_k».proof.Proof.InProjTab
public import proofs.«01_k».proof.Proof.InProjRef

@[expose] public section

set_option maxRecDepth 16384

noncomputable section

open Idealize.ShloMosaic Idealize.ShloMosaic.TcCoe Idealize.SL.Sem
open Idealize.ShloMosaic.Pipeline (Dat)

namespace Cert.InProjIdeal.Val

open Cert.InProjIdeal Cert.InProjIdeal.Gen Cert.InProjIdeal.Kept Cert.InProjIdeal.Pay
open Cert.InProjRefIdeal.Val Cert.InProjRefIdeal.Read

section
variable (p : FVec Ideal S512x1024 .f32) (cs sa sb : FVec Ideal S512x128 .f32) (r : Fin 512)

theorem col_congr {h l l' : ℕ} (hh : h < 8) (hl : l < 128) (hl' : l' < 128) (e : l = l') : col h hh l hl = col h hh l' hl' := by
  subst e; rfl

/-- In the first half of a pair the third table is zero: `a·c − b·s`. -/
theorem rot_left (h : ℕ) (hh : h < 8) (q : Fin 2) (k : Fin 32) (cv sv : EReal)
    (h0 : cs (ix2 r ⟨q.val * 64 + k.val, by omega⟩) = cv) (h1 : sa (ix2 r ⟨q.val * 64 + k.val, by omega⟩) = -sv)
    (h2 : sb (ix2 r ⟨q.val * 64 + k.val, by omega⟩) = (0 : EReal)) :
    rot p cs sa sb r ⟨q.val * 64 + k.val, by omega⟩ h hh
      = p (ix2 r (col h hh (q.val * 64 + k.val) (by omega))) * cv - p (ix2 r (col h hh (q.val * 64 + (32 + k.val)) (by omega))) * sv := by
  have := q.isLt; have := k.isLt
  unfold rot
  rw [h0, h1, h2, col_congr hh (Nat.mod_lt _ (by decide)) (show q.val * 64 + (32 + k.val) < 128 by omega)
    (show (q.val * 64 + k.val + 128 - 96) % 128 = q.val * 64 + (32 + k.val) by omega), mul_zero, add_zero, mul_neg, ← sub_eq_add_neg]

/-- In the second half the second table is zero: `a·s + b·c`. -/
theorem rot_right (h : ℕ) (hh : h < 8) (q : Fin 2) (k : Fin 32) (cv sv : EReal)
    (h0 : cs (ix2 r ⟨q.val * 64 + (32 + k.val), by omega⟩) = cv) (h1 : sa (ix2 r ⟨q.val * 64 + (32 + k.val), by omega⟩) = (0 : EReal))
    (h2 : sb (ix2 r ⟨q.val * 64 + (32 + k.val), by omega⟩) = sv) :
    rot p cs sa sb r ⟨q.val * 64 + (32 + k.val), by omega⟩ h hh
      = p (ix2 r (col h hh (q.val * 64 + k.val) (by omega))) * sv + p (ix2 r (col h hh (q.val * 64 + (32 + k.val)) (by omega))) * cv := by
  have := q.isLt; have := k.isLt
  unfold rot
  rw [h0, h1, h2, col_congr hh (Nat.mod_lt _ (by decide)) (show q.val * 64 + k.val < 128 by omega)
    (show (q.val * 64 + (32 + k.val) + 128 - 32) % 128 = q.val * 64 + k.val by omega), mul_zero, add_zero, add_comm]

end

variable (m : (ℓ : Loc nD τ sig) → Buf (Elt Ideal) ℓ) (c : Dev nD) (t : Fin cfg0.N)

/-- Argument arrays of the launch on device `c`. -/
abbrev A0 : FVec Ideal S49152x2048 .f32 := m ((c : Thread nD τ).loc main_arg0)
abbrev A1 : FVec Ideal S1x2048 .f32 := m ((c : Thread nD τ).loc main_arg1)
abbrev A2 : FVec Ideal S2048x6144 .bf16 := m ((c : Thread nD τ).loc main_arg2)
abbrev A3 : FVec Ideal S8192x32 .f32 := m ((c : Thread nD τ).loc main_arg3)
abbrev A4 : FVec Ideal S8192x32 .f32 := m ((c : Thread nD τ).loc main_arg4)

theorem lt_N : t.val < 576 := lt_of_lt_of_eq t.isLt N_0

/-- The row of the array that row `r` of the block of point `t` is. -/
def arow (r : Fin 512) : Fin 49152 := ⟨t.val / 6 * 512 + r.val, by have := lt_N t; omega⟩

/-- The position of that row in its sequence, and the sequence. -/
def pos (r : Fin 512) : Fin 8192 := ⟨t.val / 6 % 16 * 512 + r.val, by omega⟩
def seq : Fin 6 := ⟨t.val / 96, by have := lt_N t; omega⟩

theorem row_eq (r : Fin 512) : Cert.InProjRefIdeal.Val.row (seq t) (pos t r) = arow t r := by
  apply Fin.ext
  show t.val / 96 * 8192 + (t.val / 6 % 16 * 512 + r.val) = t.val / 6 * 512 + r.val
  omega

theorem blk0 (r : Fin 512) (d : Fin 2048) : iblk m c 0 t (ix2 r d) = A0 m c (ix2 (arow t r) d) := by
  rw [← show V m c main_arg0 = A0 m c from V_main_arg0 m c]
  unfold arow; blk_point [iblk, idx t]

theorem blk1 (d : Fin 2048) : iblk m c 1 t (ix2 0 d) = A1 m c (ix2 0 d) := by
  rw [← show V m c main_arg1 = A1 m c from V_main_arg1 m c]
  blk_point [iblk, idx t]

/-- The column of the weights that column `n` of the block of point `t` is. -/
def acol (n : Fin 1024) : Fin 6144 := ⟨t.val % 6 * 1024 + n.val, by omega⟩

theorem blk2 (d : Fin 2048) (n : Fin 1024) : iblk m c 2 t (ix2 d n) = A2 m c (ix2 d (acol t n)) := by
  rw [← show V m c main_arg2 = A2 m c from V_main_arg2 m c]
  unfold acol; blk_point [iblk, idx t]

theorem blk3 (r : Fin 512) (l : Fin 128) : iblk m c 3 t (ix2 r l) = V m c main_v4 (ix2 (pos t r) l) := by
  unfold pos; blk_point [iblk, idx t]

theorem blk4 (r : Fin 512) (l : Fin 128) : iblk m c 4 t (ix2 r l) = V m c main_v9 (ix2 (pos t r) l) := by
  unfold pos; blk_point [iblk, idx t]

theorem blk5 (r : Fin 512) (l : Fin 128) : iblk m c 5 t (ix2 r l) = V m c main_v13 (ix2 (pos t r) l) := by
  unfold pos; blk_point [iblk, idx t]

/-- The tables in the first half of a pair. -/
theorem tab_left (r : Fin 512) (q : Fin 2) (k : Fin 32) :
    iblk m c 3 t (ix2 r ⟨q.val * 64 + k.val, by omega⟩) = A3 m c (ix2 (pos t r) k)
      ∧ iblk m c 4 t (ix2 r ⟨q.val * 64 + k.val, by omega⟩) = -(A4 m c (ix2 (pos t r) k) : EReal)
      ∧ iblk m c 5 t (ix2 r ⟨q.val * 64 + k.val, by omega⟩) = (0 : EReal) := by
  refine ⟨?_, ?_, ?_⟩
  · rw [blk3, show V m c main_v4 = _ from Tab.V4 m c]
    exact (Tab.twice_apply _ (pos t r) q ⟨k.val, by omega⟩).trans (Tab.pair_left _ _ (pos t r) k)
  · rw [blk4, show V m c main_v9 = _ from Tab.V9 m c]
    exact ((Tab.twice_apply _ (pos t r) q ⟨k.val, by omega⟩).trans (Tab.pair_left _ _ (pos t r) k)).trans rfl
  · rw [blk5, show V m c main_v13 = _ from Tab.V13 m c]
    exact ((Tab.twice_apply _ (pos t r) q ⟨k.val, by omega⟩).trans (Tab.pair_left _ _ (pos t r) k)).trans (Tab.zero_apply _)

/-- The tables in the second half. -/
theorem tab_right (r : Fin 512) (q : Fin 2) (k : Fin 32) :
    iblk m c 3 t (ix2 r ⟨q.val * 64 + (32 + k.val), by omega⟩) = A3 m c (ix2 (pos t r) k)
      ∧ iblk m c 4 t (ix2 r ⟨q.val * 64 + (32 + k.val), by omega⟩) = (0 : EReal)
      ∧ iblk m c 5 t (ix2 r ⟨q.val * 64 + (32 + k.val), by omega⟩) = A4 m c (ix2 (pos t r) k) := by
  refine ⟨?_, ?_, ?_⟩
  · rw [blk3, show V m c main_v4 = _ from Tab.V4 m c]
    exact (Tab.twice_apply _ (pos t r) q ⟨32 + k.val, by omega⟩).trans (Tab.pair_right _ _ (pos t r) k)
  · rw [blk4, show V m c main_v9 = _ from Tab.V9 m c]
    exact ((Tab.twice_apply _ (pos t r) q ⟨32 + k.val, by omega⟩).trans (Tab.pair_right _ _ (pos t r) k)).trans (Tab.zero_apply _)
  · rw [blk5, show V m c main_v13 = _ from Tab.V13 m c]
    exact (Tab.twice_apply _ (pos t r) q ⟨32 + k.val, by omega⟩).trans (Tab.pair_right _ _ (pos t r) k)

/-- The product of a point is the whole product at its rows and columns. -/
theorem res_apply (r : Fin 512) (n : Fin 1024) :
    res m c t (ix2 r n) = prj (A0 m c) (A1 m c) (A2 m c) (arow t r) (acol t n) := by
  rw [res, pay2_apply, prj]
  refine Finset.sum_congr rfl fun d _ => ?_
  rw [nrm, pay1_apply, blk2]
  simp only [rms, rmsAll, blk0, blk1]

theorem arow_prev (h : ¬t.val % 6 = 0) (r : Fin 512) : arow (prev t) r = arow t r := by
  apply Fin.ext
  show (t.val - 1) / 6 * 512 + r.val = t.val / 6 * 512 + r.val
  omega

theorem pos_prev (h : ¬t.val % 6 = 0) (r : Fin 512) : pos (prev t) r = pos t r := by
  apply Fin.ext
  show (t.val - 1) / 6 % 16 * 512 + r.val = t.val / 6 % 16 * 512 + r.val
  omega

theorem seq_prev (h : ¬t.val % 6 = 0) : seq (prev t) = seq t := by
  apply Fin.ext
  show (t.val - 1) / 96 = t.val / 96
  omega

/-- The column of the hidden part that column `n` of the block of point `t` is. -/
def hcol (n : Fin 1024) : Fin 3072 := ⟨min (t.val % 6) 2 * 1024 + n.val, by omega⟩

/-- The hidden window at every point holds the reference's block. -/
theorem hidden_apply (i : ℕ) (hi : i < cfg0.N) (r : Fin 512) (n : Fin 1024) :
    (outsAt0 m c i hi).1 (ix2 r n)
      = val_main_v16 (F := Ideal) (A0 m c) (A1 m c) (A2 m c) (ix2 (arow ⟨i, hi⟩ r) (hcol ⟨i, hi⟩ n)) := by
  have base : ∀ t : Fin cfg0.N, t.val % 6 ≤ 2 → (outsAt0 m c t.val t.isLt).1 (ix2 r n)
      = val_main_v16 (F := Ideal) (A0 m c) (A1 m c) (A2 m c) (ix2 (arow t r) (hcol t n)) := by
    intro t h
    rw [hidden_out m c t h, res_apply, ref16]
    congr 1
    apply Fin.ext
    show t.val % 6 * 1024 + n.val = min (t.val % 6) 2 * 1024 + n.val
    rw [Nat.min_eq_left h]
  induction i with
  | zero => exact base ⟨0, hi⟩ (by show 0 % 6 ≤ 2; decide)
  | succ i ih =>
    by_cases h : (i + 1) % 6 ≤ 2
    · exact base ⟨i + 1, hi⟩ h
    · have k := hidden_keep m c ⟨i + 1, hi⟩ h
      have a := arow_prev ⟨i + 1, hi⟩ (show ¬(i + 1) % 6 = 0 by omega) r
      simp only [prev, Nat.add_sub_cancel] at k a
      rw [k, ← a, ih (by omega)]
      congr 2
      apply Fin.ext
      show min (i % 6) 2 * 1024 + n.val = min ((i + 1) % 6) 2 * 1024 + n.val
      rw [Nat.min_eq_right (by omega), Nat.min_eq_right (by omega)]

/-- The features of a pair, by halves. -/
theorem halves (l : Fin 128) : ∃ (q : Fin 2) (k : Fin 32), l = ⟨q.val * 64 + k.val, by omega⟩ ∨ l = ⟨q.val * 64 + (32 + k.val), by omega⟩ := by
  have := l.isLt
  refine ⟨⟨l.val / 64, by omega⟩, ⟨l.val % 32, by omega⟩, ?_⟩
  by_cases h : l.val % 64 < 32
  · left; apply Fin.ext; show l.val = l.val / 64 * 64 + l.val % 32; omega
  · right; apply Fin.ext; show l.val = l.val / 64 * 64 + (32 + l.val % 32); omega

theorem acol_query (ht : t.val % 6 = 3) (h : Fin 8) (q : Fin 2) (k : Fin 64) :
    acol t (col h.val h.isLt (q.val * 64 + k.val) (by omega)) = ⟨3072 + ((2 * h.val + q.val) * 64 + k.val), by omega⟩ := by
  apply Fin.ext
  show t.val % 6 * 1024 + (h.val * 128 + (q.val * 64 + k.val)) = 3072 + ((2 * h.val + q.val) * 64 + k.val)
  omega

theorem acol_key (ht : t.val % 6 = 4) (h : Fin 8) (q : Fin 2) (k : Fin 64) :
    acol t (col h.val h.isLt (q.val * 64 + k.val) (by omega)) = ⟨4096 + ((2 * h.val + q.val) * 64 + k.val), by omega⟩ := by
  apply Fin.ext
  show t.val % 6 * 1024 + (h.val * 128 + (q.val * 64 + k.val)) = 4096 + ((2 * h.val + q.val) * 64 + k.val)
  omega

/-- The reference's queries before they are turned, as the product of the point. -/
theorem query_raw (ht : t.val % 6 = 3) (h : Fin 8) (r : Fin 512) (q : Fin 2) (k : Fin 64) :
    val_main_v20 (F := Ideal) (A0 m c) (A1 m c) (A2 m c) (ix4 (seq t) (pos t r) ⟨2 * h.val + q.val, by omega⟩ k)
      = res m c t (ix2 r (col h.val h.isLt (q.val * 64 + k.val) (by omega))) := by
  rw [ref20, res_apply, acol_query t ht, row_eq]

theorem key_raw (ht : t.val % 6 = 4) (h : Fin 8) (r : Fin 512) (q : Fin 2) (k : Fin 64) :
    val_main_v38 (F := Ideal) (A0 m c) (A1 m c) (A2 m c) (ix4 (seq t) (pos t r) ⟨2 * h.val + q.val, by omega⟩ k)
      = res m c t (ix2 r (col h.val h.isLt (q.val * 64 + k.val) (by omega))) := by
  rw [ref38, res_apply, acol_key t ht, row_eq]

theorem query_apply (ht : t.val % 6 = 3) (h : Fin 8) (r : Fin 512) (l : Fin 128) :
    (outsAt0 m c t.val t.isLt).2.1 (ix4 0 h r l)
      = val_main_v56 (F := Ideal) (A0 m c) (A1 m c) (A2 m c) (A3 m c) (A4 m c) (ix4 (seq t) h (pos t r) l) := by
  rw [query_out m c t ht]
  obtain ⟨q, k, rfl | rfl⟩ := halves l
  · obtain ⟨h0, h1, h2⟩ := tab_left m c t r q k
    rw [rotq, rot_left _ _ _ _ _ _ _ q k _ _ h0 h1 h2, ref56 _ _ _ _ _ (seq t) h (pos t r) q ⟨k.val, by omega⟩, ref35a, ref29,
      query_raw m c t ht h r q, query_raw m c t ht h r q]
  · obtain ⟨h0, h1, h2⟩ := tab_right m c t r q k
    rw [rotq, rot_right _ _ _ _ _ _ _ q k _ _ h0 h1 h2, ref56 _ _ _ _ _ (seq t) h (pos t r) q ⟨32 + k.val, by omega⟩, ref35b, ref34,
      query_raw m c t ht h r q, query_raw m c t ht h r q]

theorem key_apply (ht : t.val % 6 = 4) (h : Fin 8) (r : Fin 512) (l : Fin 128) :
    (outsAt0 m c t.val t.isLt).2.2.1 (ix4 0 h r l)
      = val_main_v59 (F := Ideal) (A0 m c) (A1 m c) (A2 m c) (A3 m c) (A4 m c) (ix4 (seq t) h (pos t r) l) := by
  rw [key_out m c t ht]
  obtain ⟨q, k, rfl | rfl⟩ := halves l
  · obtain ⟨h0, h1, h2⟩ := tab_left m c t r q k
    rw [rot_left _ _ _ _ _ _ _ q k _ _ h0 h1 h2, ref59 _ _ _ _ _ (seq t) h (pos t r) q ⟨k.val, by omega⟩, ref53a, ref47,
      key_raw m c t ht h r q, key_raw m c t ht h r q]
  · obtain ⟨h0, h1, h2⟩ := tab_right m c t r q k
    rw [rot_right _ _ _ _ _ _ _ q k _ _ h0 h1 h2, ref59 _ _ _ _ _ (seq t) h (pos t r) q ⟨32 + k.val, by omega⟩, ref53b, ref52,
      key_raw m c t ht h r q, key_raw m c t ht h r q]

theorem value_apply (ht : t.val % 6 = 5) (h : Fin 8) (r : Fin 512) (l : Fin 128) :
    (outsAt0 m c t.val t.isLt).2.2.2.1 (ix4 0 h r l)
      = val_main_v62 (F := Ideal) (A0 m c) (A1 m c) (A2 m c) (ix4 (seq t) h (pos t r) l) := by
  rw [value_out m c t ht, res_apply, ref62, row_eq]
  congr 1
  apply Fin.ext
  show t.val % 6 * 1024 + (h.val * 128 + l.val) = 5120 + (h.val * 128 + l.val)
  omega

/-- At the last point of a run the three windows hold the reference's blocks. -/
theorem query_last (ht : t.val % 6 = 5) (h : Fin 8) (r : Fin 512) (l : Fin 128) :
    (outsAt0 m c t.val t.isLt).2.1 (ix4 0 h r l)
      = val_main_v56 (F := Ideal) (A0 m c) (A1 m c) (A2 m c) (A3 m c) (A4 m c) (ix4 (seq t) h (pos t r) l) := by
  have e4 : (prev t).val % 6 = 4 := by show (t.val - 1) % 6 = 4; omega
  have e3 : (prev (prev t)).val % 6 = 3 := by show (t.val - 1 - 1) % 6 = 3; omega
  rw [query_keep m c t (Or.inr ht), query_keep m c (prev t) (Or.inl e4), query_apply m c _ e3,
    seq_prev (prev t) (by omega), pos_prev (prev t) (by omega), seq_prev t (by omega), pos_prev t (by omega)]

theorem key_last (ht : t.val % 6 = 5) (h : Fin 8) (r : Fin 512) (l : Fin 128) :
    (outsAt0 m c t.val t.isLt).2.2.1 (ix4 0 h r l)
      = val_main_v59 (F := Ideal) (A0 m c) (A1 m c) (A2 m c) (A3 m c) (A4 m c) (ix4 (seq t) h (pos t r) l) := by
  have e4 : (prev t).val % 6 = 4 := by show (t.val - 1) % 6 = 4; omega
  rw [key_keep m c t ht, key_apply m c _ e4, seq_prev t (by omega), pos_prev t (by omega)]

/-- The hidden part. -/
theorem final6 : (dats m 0 c).arrAt 6 (cfgs 0).N = val_main_v16 (F := Ideal) (A0 m c) (A1 m c) (A2 m c) := by
  refine (dats m 0 c).arrAt_eq_of_covers 6 _ (by decide +kernel) fun t hf y => ?_
  blk_simp
  rw [after0_6]
  obtain ⟨r, n, rfl⟩ : ∃ (r : Fin 512) (n : Fin 1024), y = ix2 r n := ⟨y 0, y 1, by funext a; fin_cases a <;> rfl⟩
  have e : (((cfg0.win 6).blk t).view.emb (ix2 r n) : S49152x3072.Idx) = ix2 (arow t r) (hcol t n) := by
    unfold arow hcol; blk_ext [idx t]
  have e' : ((win0_6.blk t).view.emb (ix2 r n) : S49152x3072.Idx) = ix2 (arow t r) (hcol t n) := e
  rw [e', hidden_apply]

theorem ix4_eta (y : S1x8x512x128.Idx) : ∃ (h : Fin 8) (r : Fin 512) (l : Fin 128), y = ix4 0 h r l :=
  ⟨y 1, y 2, y 3, by
    funext a; fin_cases a
    · exact Subsingleton.elim (α := Fin 1) _ _
    · rfl
    · rfl
    · rfl⟩

/-- The queries. -/
theorem final7 : (dats m 0 c).arrAt 7 (cfgs 0).N
    = val_main_v56 (F := Ideal) (A0 m c) (A1 m c) (A2 m c) (A3 m c) (A4 m c) := by
  refine (dats m 0 c).arrAt_eq_of_covers 7 _ (by decide +kernel) fun t hf y => ?_
  have ht : t.val % 6 = 5 := (flush0_7 t).mp hf
  blk_simp
  rw [after0_7]
  obtain ⟨h, r, l, rfl⟩ := ix4_eta y
  have e : (((cfg0.win 7).blk t).view.emb (ix4 0 h r l) : S6x8x8192x128.Idx) = ix4 (seq t) h (pos t r) l := by
    unfold seq pos; blk_ext [idx t]
  have e' : ((win0_7.blk t).view.emb (ix4 0 h r l) : S6x8x8192x128.Idx) = ix4 (seq t) h (pos t r) l := e
  rw [e', query_last m c t ht]

/-- The keys. -/
theorem final8 : (dats m 0 c).arrAt 8 (cfgs 0).N
    = val_main_v59 (F := Ideal) (A0 m c) (A1 m c) (A2 m c) (A3 m c) (A4 m c) := by
  refine (dats m 0 c).arrAt_eq_of_covers 8 _ (by decide +kernel) fun t hf y => ?_
  have ht : t.val % 6 = 5 := (flush0_8 t).mp hf
  blk_simp
  rw [after0_8]
  obtain ⟨h, r, l, rfl⟩ := ix4_eta y
  have e : (((cfg0.win 8).blk t).view.emb (ix4 0 h r l) : S6x8x8192x128.Idx) = ix4 (seq t) h (pos t r) l := by
    unfold seq pos; blk_ext [idx t]
  have e' : ((win0_8.blk t).view.emb (ix4 0 h r l) : S6x8x8192x128.Idx) = ix4 (seq t) h (pos t r) l := e
  rw [e', key_last m c t ht]

/-- The values. -/
theorem final9 : (dats m 0 c).arrAt 9 (cfgs 0).N = val_main_v62 (F := Ideal) (A0 m c) (A1 m c) (A2 m c) := by
  refine (dats m 0 c).arrAt_eq_of_covers 9 _ (by decide +kernel) fun t hf y => ?_
  have ht : t.val % 6 = 5 := (flush0_9 t).mp hf
  blk_simp
  rw [after0_9]
  obtain ⟨h, r, l, rfl⟩ := ix4_eta y
  have e : (((cfg0.win 9).blk t).view.emb (ix4 0 h r l) : S6x8x8192x128.Idx) = ix4 (seq t) h (pos t r) l := by
    unfold seq pos; blk_ext [idx t]
  have e' : ((win0_9.blk t).view.emb (ix4 0 h r l) : S6x8x8192x128.Idx) = ix4 (seq t) h (pos t r) l := e
  rw [e', value_apply m c t ht]

end Cert.InProjIdeal.Val

end
-- ==== Proof.InProjClaim.lean ====
/-
The claims about the input projection: its reference runs, and computes what the kernel computes.
-/
module

public import proofs.«01_k».proof.Defs
public import proofs.«01_k».proof.Proof.Gen.InProj
public import proofs.«01_k».proof.Proof.Gen.InProjIdeal
public import proofs.«01_k».proof.Proof.Gen.InProjRefIdeal
public import proofs.«01_k».proof.Proof.Gen.InProjRefIdeal.Run
public import proofs.«01_k».proof.Proof.Gen.InProjRefIdeal.Read
public import proofs.«01_k».proof.Proof.InProjIdealValue
public import proofs.«01_k».proof.Proof.InProjFinal

@[expose] public section

noncomputable section

open Idealize.ShloMosaic Idealize.ShloMosaic.TcCoe Idealize.SL.Sem

namespace Cert.Proof

attribute [local instance] Cert.InProj.Gen.facts Cert.InProjIdeal.Gen.facts Cert.InProjRefIdeal.Gen.facts

/-- The reference runs, keeps its arguments and has no counter to leave. -/
theorem frame_InProjRefIdeal : Cert.quiescent_InProjRefIdeal := fun m g _ =>
  (θ_run _ _ _).mono (fun r h => ⟨fun c => (h c).2.2.2.2, sem_eq_zero_of_no_sems rfl _⟩)
    (Cert.InProjRefIdeal.Value.run (F := Ideal) m g)

/-- Kernel and reference end with the same four arrays: the first part, the queries, the keys and the values. -/
theorem value_InProj : Cert.algebraic_InProjIdeal_InProjRefIdeal := by
  intro m g m' g' _ hagree
  refine ⟨fun c => (Cert.InProjIdeal.Kept.dats m 0 c).arrAt 6 (Cert.InProjIdeal.cfgs 0).N,
    fun c => (Cert.InProjIdeal.Kept.dats m 0 c).arrAt 7 (Cert.InProjIdeal.cfgs 0).N,
    fun c => (Cert.InProjIdeal.Kept.dats m 0 c).arrAt 8 (Cert.InProjIdeal.cfgs 0).N,
    fun c => (Cert.InProjIdeal.Kept.dats m 0 c).arrAt 9 (Cert.InProjIdeal.cfgs 0).N,
    Cert.InProjIdeal.Value.run_blocks m g, ?_⟩
  refine (θ_run _ _ _).mono (fun r h c => ?_) (Cert.InProjRefIdeal.Value.run (F := Ideal) m' g')
  obtain ⟨h0, h1, h2, h3, h4⟩ := hagree c
  refine ⟨(h c).1.trans ?_, (h c).2.1.trans ?_, (h c).2.2.1.trans ?_, (h c).2.2.2.1.trans ?_, (h c).2.2.2.2⟩
  · refine (Cert.InProjRefIdeal.Read.val_main_v16_eq _ _ _).trans (Eq.trans ?_ (Cert.InProjIdeal.Val.final6 m c).symm)
    rw [h0, h1, h2]
  · refine (Cert.InProjRefIdeal.Read.val_main_v56_eq m' c).trans (Eq.trans ?_ (Cert.InProjIdeal.Val.final7 m c).symm)
    rw [h0, h1, h2, h3, h4]
  · refine (Cert.InProjRefIdeal.Read.val_main_v59_eq m' c).trans (Eq.trans ?_ (Cert.InProjIdeal.Val.final8 m c).symm)
    rw [h0, h1, h2, h3, h4]
  · refine (Cert.InProjRefIdeal.Read.val_main_v62_eq _ _ _).trans (Eq.trans ?_ (Cert.InProjIdeal.Val.final9 m c).symm)
    rw [h0, h1, h2]

end Cert.Proof

end
-- ==== Proof.lean ====
/-
The claims about the input projection, the attention, the feed-forward block and the output projection: every program runs
and keeps its arguments, the ideal program is the kernel over the extended reals, and kernel and
reference end with the same array.
-/
module

public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import Idealize.ShloMosaic.Adequacy
public import Idealize.ShloMosaic.Init
public import proofs.«01_k».proof.Proof.Gen.Pre_finite_values
public import proofs.«01_k».proof.Proof.AttnClaim
public import proofs.«01_k».proof.Proof.FfnClaim
public import proofs.«01_k».proof.Proof.OutProjClaim
public import proofs.«01_k».proof.Proof.InProjFrame
public import proofs.«01_k».proof.Proof.InProjIdealFrame
public import proofs.«01_k».proof.Proof.InProjClaim

public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjRefIdeal
public import proofs.«01_k».proof.Proof.Gen.InProjRefIdeal.Run
public import proofs.«01_k».proof.Proof.Gen.InProjRefIdeal.Read

@[expose] public section

noncomputable section

namespace Cert.Proof

theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts, Cert.OutProj.Gen.facts, Cert.OutProjIdeal.Gen.facts, Cert.OutProjRefIdeal.Gen.facts,
    Cert.InProj.Gen.facts, Cert.InProjIdeal.Gen.facts, Cert.InProjRefIdeal.Gen.facts, Cert.Pre_finite_values.Gen.facts,
    fun m g _ => Cert.Attn.Gen.frame m g,
    fun m g _ => Cert.AttnIdeal.Gen.frame m g,
    fun m g _ => Cert.AttnIdeal.Gen.frame m g,
    frame_AttnRefIdeal,
    frame_AttnRefIdeal_finite,
    fun m g _ => Cert.Ffn.Gen.frame m g,
    fun m g _ => Cert.FfnIdeal.Gen.frame m g,
    frame_FfnRefIdeal,
    fun m g _ => Cert.OutProj.Gen.frame m g,
    fun m g _ => Cert.OutProjIdeal.Gen.frame m g,
    frame_OutProjRefIdeal,
    fun m g _ => Cert.InProj.Kept.frame m g,
    fun m g _ => Cert.InProjIdeal.Kept.frame m g,
    frame_InProjRefIdeal,
    trivial, trivial, trivial, trivial,
    value_Attn, value_Ffn, value_OutProj, value_InProj⟩

end Cert.Proof

end
